-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S2x128x4096 : Shape := ⟨3, ![2, 128, 4096]⟩
abbrev S2 : Shape := ⟨1, ![2]⟩
abbrev S_ : Shape := ⟨0, ![]⟩
abbrev S128x128 : Shape := ⟨2, ![128, 128]⟩
abbrev S128x4096 : Shape := ⟨2, ![128, 4096]⟩
abbrev S1x128x4096 : Shape := ⟨3, ![1, 128, 4096]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .fp8e5m2⟩
  | .hbm, ⟨1, _⟩ => ⟨S128x8192, .fp8e5m2⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e5m2⟩
  | .local _ .vmem, ⟨1, _⟩ => ⟨S128x8192, .fp8e5m2⟩
  | .local _ .vmem, ⟨2, _⟩ => ⟨S128x8192, .f32⟩
  | .local _ .vmem, ⟨3, _⟩ => ⟨S2x128x4096, .f32⟩
  | .local _ .vmem, ⟨4, _⟩ => ⟨S2x128x4096, .f32⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c128_i32 : BitVec 32 := 128#32
  let v13 : BitVec 32 := Scalar.muli v5 c128_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c128_i32_15 : BitVec 32 := 128#32
  let v23 : BitVec 32 := Scalar.muli v7 c128_i32_15
  let v24 : Index := Scalar.indexCast v23
  let c0_16 : Index := 0#32
  ![v24.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_26 : BitVec 32 := 1#32
  let v33 : BitVec 32 := Scalar.muli v7 c1_i32_26
  let v34 : BitVec 32 := Scalar.addi c0_i32_27 v33
  v34.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_36 : BitVec 32 := 1#32
  let v43 : BitVec 32 := Scalar.muli v5 c1_i32_36
  let v44 : BitVec 32 := Scalar.addi c0_i32_37 v43
  v44.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_81 : BitVec 32 := 1#32
  let v81 : BitVec 32 := Scalar.muli v5 c1_i32_81
  let v82 : BitVec 32 := Scalar.addi c0_i32_82 v81
  v82.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_84 : BitVec 32 := 1#32
  let v83 : BitVec 32 := Scalar.muli v7 c1_i32_84
  let v84 : BitVec 32 := Scalar.addi c0_i32_85 v83
  v84.toNat
def k0_off3 (d0 : Dev nD) (c0_i32_87 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_86 : BitVec 32 := 2#32
  let v85 : BitVec 32 := Scalar.subi v2 c2_i32_86
  let v86 : BitVec 32 := Scalar.subi v85 c0_i32_87
  let c64_i32 : BitVec 32 := 64#32
  let v87 : BitVec 32 := Scalar.addi v86 c64_i32
  let c32_i32_88 : BitVec 32 := 32#32
  let v88 : BitVec 32 := Scalar.remsi v87 c32_i32_88
  let c128_i32_94 : BitVec 32 := 128#32
  let v94 : BitVec 32 := Scalar.muli v88 c128_i32_94
  let v95 : Index := Scalar.indexCast v94
  let c0_95 : Index := 0#32
  ![v95.toNat, 0]
def k0_off4 (d0 : Dev nD) (c0_i32_90 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_89 : BitVec 32 := 2#32
  let v89 : BitVec 32 := Scalar.addi v2 c2_i32_89
  let v90 : BitVec 32 := Scalar.addi v89 c0_i32_90
  let c32_i32_91 : BitVec 32 := 32#32
  let v91 : BitVec 32 := Scalar.remsi v90 c32_i32_91
  let c128_i32_105 : BitVec 32 := 128#32
  let v107 : BitVec 32 := Scalar.muli v91 c128_i32_105
  let v108 : Index := Scalar.indexCast v107
  let c0_106 : Index := 0#32
  ![v108.toNat, 0]
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_121 : BitVec 32 := 1#32
  let v118 : BitVec 32 := Scalar.muli v7 c1_i32_121
  let v119 : BitVec 32 := Scalar.addi c0_i32_122 v118
  v119.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_131 : BitVec 32 := 1#32
  let v128 : BitVec 32 := Scalar.muli v5 c1_i32_131
  let v129 : BitVec 32 := Scalar.addi c0_i32_132 v128
  v129.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_176 : BitVec 32 := 1#32
  let v166 : BitVec 32 := Scalar.muli v5 c1_i32_176
  let v167 : BitVec 32 := Scalar.addi c0_i32_177 v166
  v167.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_179 : BitVec 32 := 1#32
  let v168 : BitVec 32 := Scalar.muli v7 c1_i32_179
  let v169 : BitVec 32 := Scalar.addi c0_i32_180 v168
  v169.toNat
def k0_dev11 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_218 : BitVec 32 := 1#32
  let v203 : BitVec 32 := Scalar.muli v7 c1_i32_218
  let v204 : BitVec 32 := Scalar.addi c0_i32_219 v203
  v204.toNat
def k0_dev12 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_228 : BitVec 32 := 1#32
  let v213 : BitVec 32 := Scalar.muli v5 c1_i32_228
  let v214 : BitVec 32 := Scalar.addi c0_i32_229 v213
  v214.toNat
def k0_dev13 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_273 : BitVec 32 := 1#32
  let v251 : BitVec 32 := Scalar.muli v5 c1_i32_273
  let v252 : BitVec 32 := Scalar.addi c0_i32_274 v251
  v252.toNat
def k0_dev14 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_276 : BitVec 32 := 1#32
  let v253 : BitVec 32 := Scalar.muli v7 c1_i32_276
  let v254 : BitVec 32 := Scalar.addi c0_i32_277 v253
  v254.toNat
def k0_dev15 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_315 : BitVec 32 := 1#32
  let v288 : BitVec 32 := Scalar.muli v7 c1_i32_315
  let v289 : BitVec 32 := Scalar.addi c0_i32_316 v288
  v289.toNat
def k0_dev16 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_325 : BitVec 32 := 1#32
  let v298 : BitVec 32 := Scalar.muli v5 c1_i32_325
  let v299 : BitVec 32 := Scalar.addi c0_i32_326 v298
  v299.toNat
def k0_dev17 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_370 : BitVec 32 := 1#32
  let v336 : BitVec 32 := Scalar.muli v5 c1_i32_370
  let v337 : BitVec 32 := Scalar.addi c0_i32_371 v336
  v337.toNat
def k0_dev18 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_373 : BitVec 32 := 1#32
  let v338 : BitVec 32 := Scalar.muli v7 c1_i32_373
  let v339 : BitVec 32 := Scalar.addi c0_i32_374 v338
  v339.toNat
def k0_dev19 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_411 : BitVec 32 := 1#32
  let v373 : BitVec 32 := Scalar.muli v7 c1_i32_411
  let v374 : BitVec 32 := Scalar.addi c0_i32_412 v373
  v374.toNat
def k0_dev20 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_421 : BitVec 32 := 1#32
  let v383 : BitVec 32 := Scalar.muli v5 c1_i32_421
  let v384 : BitVec 32 := Scalar.addi c0_i32_422 v383
  v384.toNat
def k0_dev21 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_466 : BitVec 32 := 1#32
  let v421 : BitVec 32 := Scalar.muli v5 c1_i32_466
  let v422 : BitVec 32 := Scalar.addi c0_i32_467 v421
  v422.toNat
def k0_dev22 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_469 : BitVec 32 := 1#32
  let v423 : BitVec 32 := Scalar.muli v7 c1_i32_469
  let v424 : BitVec 32 := Scalar.addi c0_i32_470 v423
  v424.toNat
def k0_dev23 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_507 : BitVec 32 := 1#32
  let v458 : BitVec 32 := Scalar.muli v7 c1_i32_507
  let v459 : BitVec 32 := Scalar.addi c0_i32_508 v458
  v459.toNat
def k0_dev24 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_517 : BitVec 32 := 1#32
  let v468 : BitVec 32 := Scalar.muli v5 c1_i32_517
  let v469 : BitVec 32 := Scalar.addi c0_i32_518 v468
  v469.toNat
def k0_dev25 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_562 : BitVec 32 := 1#32
  let v506 : BitVec 32 := Scalar.muli v5 c1_i32_562
  let v507 : BitVec 32 := Scalar.addi c0_i32_563 v506
  v507.toNat
def k0_dev26 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_565 : BitVec 32 := 1#32
  let v508 : BitVec 32 := Scalar.muli v7 c1_i32_565
  let v509 : BitVec 32 := Scalar.addi c0_i32_566 v508
  v509.toNat
def k0_dev27 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_603 : BitVec 32 := 1#32
  let v543 : BitVec 32 := Scalar.muli v7 c1_i32_603
  let v544 : BitVec 32 := Scalar.addi c0_i32_604 v543
  v544.toNat
def k0_dev28 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_613 : BitVec 32 := 1#32
  let v553 : BitVec 32 := Scalar.muli v5 c1_i32_613
  let v554 : BitVec 32 := Scalar.addi c0_i32_614 v553
  v554.toNat
def k0_dev29 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_658 : BitVec 32 := 1#32
  let v591 : BitVec 32 := Scalar.muli v5 c1_i32_658
  let v592 : BitVec 32 := Scalar.addi c0_i32_659 v591
  v592.toNat
def k0_dev30 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_661 : BitVec 32 := 1#32
  let v593 : BitVec 32 := Scalar.muli v7 c1_i32_661
  let v594 : BitVec 32 := Scalar.addi c0_i32_662 v593
  v594.toNat
def k0_dev31 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_699 : BitVec 32 := 1#32
  let v628 : BitVec 32 := Scalar.muli v7 c1_i32_699
  let v629 : BitVec 32 := Scalar.addi c0_i32_700 v628
  v629.toNat
def k0_dev32 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_709 : BitVec 32 := 1#32
  let v638 : BitVec 32 := Scalar.muli v5 c1_i32_709
  let v639 : BitVec 32 := Scalar.addi c0_i32_710 v638
  v639.toNat
def k0_dev33 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_754 : BitVec 32 := 1#32
  let v676 : BitVec 32 := Scalar.muli v5 c1_i32_754
  let v677 : BitVec 32 := Scalar.addi c0_i32_755 v676
  v677.toNat
def k0_dev34 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_757 : BitVec 32 := 1#32
  let v678 : BitVec 32 := Scalar.muli v7 c1_i32_757
  let v679 : BitVec 32 := Scalar.addi c0_i32_758 v678
  v679.toNat
def k0_dev35 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_795 : BitVec 32 := 1#32
  let v713 : BitVec 32 := Scalar.muli v7 c1_i32_795
  let v714 : BitVec 32 := Scalar.addi c0_i32_796 v713
  v714.toNat
def k0_dev36 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_805 : BitVec 32 := 1#32
  let v723 : BitVec 32 := Scalar.muli v5 c1_i32_805
  let v724 : BitVec 32 := Scalar.addi c0_i32_806 v723
  v724.toNat
def k0_dev37 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_850 : BitVec 32 := 1#32
  let v761 : BitVec 32 := Scalar.muli v5 c1_i32_850
  let v762 : BitVec 32 := Scalar.addi c0_i32_851 v761
  v762.toNat
def k0_dev38 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_853 : BitVec 32 := 1#32
  let v763 : BitVec 32 := Scalar.muli v7 c1_i32_853
  let v764 : BitVec 32 := Scalar.addi c0_i32_854 v763
  v764.toNat
def k0_dev39 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_891 : BitVec 32 := 1#32
  let v798 : BitVec 32 := Scalar.muli v7 c1_i32_891
  let v799 : BitVec 32 := Scalar.addi c0_i32_892 v798
  v799.toNat
def k0_dev40 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_901 : BitVec 32 := 1#32
  let v808 : BitVec 32 := Scalar.muli v5 c1_i32_901
  let v809 : BitVec 32 := Scalar.addi c0_i32_902 v808
  v809.toNat
def k0_dev41 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_946 : BitVec 32 := 1#32
  let v846 : BitVec 32 := Scalar.muli v5 c1_i32_946
  let v847 : BitVec 32 := Scalar.addi c0_i32_947 v846
  v847.toNat
def k0_dev42 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_949 : BitVec 32 := 1#32
  let v848 : BitVec 32 := Scalar.muli v7 c1_i32_949
  let v849 : BitVec 32 := Scalar.addi c0_i32_950 v848
  v849.toNat
def k0_dev43 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_987 : BitVec 32 := 1#32
  let v883 : BitVec 32 := Scalar.muli v7 c1_i32_987
  let v884 : BitVec 32 := Scalar.addi c0_i32_988 v883
  v884.toNat
def k0_dev44 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_997 : BitVec 32 := 1#32
  let v893 : BitVec 32 := Scalar.muli v5 c1_i32_997
  let v894 : BitVec 32 := Scalar.addi c0_i32_998 v893
  v894.toNat
def k0_dev45 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1042 : BitVec 32 := 1#32
  let v931 : BitVec 32 := Scalar.muli v5 c1_i32_1042
  let v932 : BitVec 32 := Scalar.addi c0_i32_1043 v931
  v932.toNat
def k0_dev46 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1045 : BitVec 32 := 1#32
  let v933 : BitVec 32 := Scalar.muli v7 c1_i32_1045
  let v934 : BitVec 32 := Scalar.addi c0_i32_1046 v933
  v934.toNat
def k0_dev47 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1083 : BitVec 32 := 1#32
  let v968 : BitVec 32 := Scalar.muli v7 c1_i32_1083
  let v969 : BitVec 32 := Scalar.addi c0_i32_1084 v968
  v969.toNat
def k0_dev48 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1093 : BitVec 32 := 1#32
  let v978 : BitVec 32 := Scalar.muli v5 c1_i32_1093
  let v979 : BitVec 32 := Scalar.addi c0_i32_1094 v978
  v979.toNat
def k0_dev49 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1138 : BitVec 32 := 1#32
  let v1016 : BitVec 32 := Scalar.muli v5 c1_i32_1138
  let v1017 : BitVec 32 := Scalar.addi c0_i32_1139 v1016
  v1017.toNat
def k0_dev50 (d0 : Dev nD) : Nat :=
  let c0_i32_1142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1141 : BitVec 32 := 1#32
  let v1018 : BitVec 32 := Scalar.muli v7 c1_i32_1141
  let v1019 : BitVec 32 := Scalar.addi c0_i32_1142 v1018
  v1019.toNat
def k0_dev51 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1179 : BitVec 32 := 1#32
  let v1053 : BitVec 32 := Scalar.muli v7 c1_i32_1179
  let v1054 : BitVec 32 := Scalar.addi c0_i32_1180 v1053
  v1054.toNat
def k0_dev52 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1189 : BitVec 32 := 1#32
  let v1063 : BitVec 32 := Scalar.muli v5 c1_i32_1189
  let v1064 : BitVec 32 := Scalar.addi c0_i32_1190 v1063
  v1064.toNat
def k0_dev53 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1234 : BitVec 32 := 1#32
  let v1101 : BitVec 32 := Scalar.muli v5 c1_i32_1234
  let v1102 : BitVec 32 := Scalar.addi c0_i32_1235 v1101
  v1102.toNat
def k0_dev54 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1237 : BitVec 32 := 1#32
  let v1103 : BitVec 32 := Scalar.muli v7 c1_i32_1237
  let v1104 : BitVec 32 := Scalar.addi c0_i32_1238 v1103
  v1104.toNat
def k0_dev55 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1275 : BitVec 32 := 1#32
  let v1138 : BitVec 32 := Scalar.muli v7 c1_i32_1275
  let v1139 : BitVec 32 := Scalar.addi c0_i32_1276 v1138
  v1139.toNat
def k0_dev56 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1285 : BitVec 32 := 1#32
  let v1148 : BitVec 32 := Scalar.muli v5 c1_i32_1285
  let v1149 : BitVec 32 := Scalar.addi c0_i32_1286 v1148
  v1149.toNat
def k0_dev57 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1330 : BitVec 32 := 1#32
  let v1186 : BitVec 32 := Scalar.muli v5 c1_i32_1330
  let v1187 : BitVec 32 := Scalar.addi c0_i32_1331 v1186
  v1187.toNat
def k0_dev58 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1333 : BitVec 32 := 1#32
  let v1188 : BitVec 32 := Scalar.muli v7 c1_i32_1333
  let v1189 : BitVec 32 := Scalar.addi c0_i32_1334 v1188
  v1189.toNat
def k0_dev59 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1371 : BitVec 32 := 1#32
  let v1223 : BitVec 32 := Scalar.muli v7 c1_i32_1371
  let v1224 : BitVec 32 := Scalar.addi c0_i32_1372 v1223
  v1224.toNat
def k0_dev60 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1381 : BitVec 32 := 1#32
  let v1233 : BitVec 32 := Scalar.muli v5 c1_i32_1381
  let v1234 : BitVec 32 := Scalar.addi c0_i32_1382 v1233
  v1234.toNat
def k0_dev61 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1426 : BitVec 32 := 1#32
  let v1271 : BitVec 32 := Scalar.muli v5 c1_i32_1426
  let v1272 : BitVec 32 := Scalar.addi c0_i32_1427 v1271
  v1272.toNat
def k0_dev62 (d0 : Dev nD) : Nat :=
  let c0_i32_1430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1429 : BitVec 32 := 1#32
  let v1273 : BitVec 32 := Scalar.muli v7 c1_i32_1429
  let v1274 : BitVec 32 := Scalar.addi c0_i32_1430 v1273
  v1274.toNat
def k0_dev63 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1467 : BitVec 32 := 1#32
  let v1308 : BitVec 32 := Scalar.muli v7 c1_i32_1467
  let v1309 : BitVec 32 := Scalar.addi c0_i32_1468 v1308
  v1309.toNat
def k0_dev64 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1477 : BitVec 32 := 1#32
  let v1318 : BitVec 32 := Scalar.muli v5 c1_i32_1477
  let v1319 : BitVec 32 := Scalar.addi c0_i32_1478 v1318
  v1319.toNat
def k0_dev65 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1522 : BitVec 32 := 1#32
  let v1356 : BitVec 32 := Scalar.muli v5 c1_i32_1522
  let v1357 : BitVec 32 := Scalar.addi c0_i32_1523 v1356
  v1357.toNat
def k0_dev66 (d0 : Dev nD) : Nat :=
  let c0_i32_1526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1525 : BitVec 32 := 1#32
  let v1358 : BitVec 32 := Scalar.muli v7 c1_i32_1525
  let v1359 : BitVec 32 := Scalar.addi c0_i32_1526 v1358
  v1359.toNat
def k0_dev67 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1563 : BitVec 32 := 1#32
  let v1393 : BitVec 32 := Scalar.muli v7 c1_i32_1563
  let v1394 : BitVec 32 := Scalar.addi c0_i32_1564 v1393
  v1394.toNat
def k0_dev68 (d0 : Dev nD) : Nat :=
  let c0_i32_1574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1573 : BitVec 32 := 1#32
  let v1403 : BitVec 32 := Scalar.muli v5 c1_i32_1573
  let v1404 : BitVec 32 := Scalar.addi c0_i32_1574 v1403
  v1404.toNat
def k0_dev69 (d0 : Dev nD) : Nat :=
  let c0_i32_1619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1618 : BitVec 32 := 1#32
  let v1441 : BitVec 32 := Scalar.muli v5 c1_i32_1618
  let v1442 : BitVec 32 := Scalar.addi c0_i32_1619 v1441
  v1442.toNat
def k0_dev70 (d0 : Dev nD) : Nat :=
  let c0_i32_1622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1621 : BitVec 32 := 1#32
  let v1443 : BitVec 32 := Scalar.muli v7 c1_i32_1621
  let v1444 : BitVec 32 := Scalar.addi c0_i32_1622 v1443
  v1444.toNat
def k0_dev71 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1659 : BitVec 32 := 1#32
  let v1478 : BitVec 32 := Scalar.muli v7 c1_i32_1659
  let v1479 : BitVec 32 := Scalar.addi c0_i32_1660 v1478
  v1479.toNat
def k0_dev72 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1669 : BitVec 32 := 1#32
  let v1488 : BitVec 32 := Scalar.muli v5 c1_i32_1669
  let v1489 : BitVec 32 := Scalar.addi c0_i32_1670 v1488
  v1489.toNat
def k0_dev73 (d0 : Dev nD) : Nat :=
  let c0_i32_1715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1714 : BitVec 32 := 1#32
  let v1526 : BitVec 32 := Scalar.muli v5 c1_i32_1714
  let v1527 : BitVec 32 := Scalar.addi c0_i32_1715 v1526
  v1527.toNat
def k0_dev74 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1717 : BitVec 32 := 1#32
  let v1528 : BitVec 32 := Scalar.muli v7 c1_i32_1717
  let v1529 : BitVec 32 := Scalar.addi c0_i32_1718 v1528
  v1529.toNat
def k0_dev75 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1755 : BitVec 32 := 1#32
  let v1563 : BitVec 32 := Scalar.muli v7 c1_i32_1755
  let v1564 : BitVec 32 := Scalar.addi c0_i32_1756 v1563
  v1564.toNat
def k0_dev76 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1765 : BitVec 32 := 1#32
  let v1573 : BitVec 32 := Scalar.muli v5 c1_i32_1765
  let v1574 : BitVec 32 := Scalar.addi c0_i32_1766 v1573
  v1574.toNat
def k0_dev77 (d0 : Dev nD) : Nat :=
  let c0_i32_1811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1810 : BitVec 32 := 1#32
  let v1611 : BitVec 32 := Scalar.muli v5 c1_i32_1810
  let v1612 : BitVec 32 := Scalar.addi c0_i32_1811 v1611
  v1612.toNat
def k0_dev78 (d0 : Dev nD) : Nat :=
  let c0_i32_1814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1813 : BitVec 32 := 1#32
  let v1613 : BitVec 32 := Scalar.muli v7 c1_i32_1813
  let v1614 : BitVec 32 := Scalar.addi c0_i32_1814 v1613
  v1614.toNat
def k0_dev79 (d0 : Dev nD) : Nat :=
  let c0_i32_1852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1851 : BitVec 32 := 1#32
  let v1648 : BitVec 32 := Scalar.muli v7 c1_i32_1851
  let v1649 : BitVec 32 := Scalar.addi c0_i32_1852 v1648
  v1649.toNat
def k0_dev80 (d0 : Dev nD) : Nat :=
  let c0_i32_1862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1861 : BitVec 32 := 1#32
  let v1658 : BitVec 32 := Scalar.muli v5 c1_i32_1861
  let v1659 : BitVec 32 := Scalar.addi c0_i32_1862 v1658
  v1659.toNat
def k0_dev81 (d0 : Dev nD) : Nat :=
  let c0_i32_1907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1906 : BitVec 32 := 1#32
  let v1696 : BitVec 32 := Scalar.muli v5 c1_i32_1906
  let v1697 : BitVec 32 := Scalar.addi c0_i32_1907 v1696
  v1697.toNat
def k0_dev82 (d0 : Dev nD) : Nat :=
  let c0_i32_1910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1909 : BitVec 32 := 1#32
  let v1698 : BitVec 32 := Scalar.muli v7 c1_i32_1909
  let v1699 : BitVec 32 := Scalar.addi c0_i32_1910 v1698
  v1699.toNat
def k0_dev83 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1947 : BitVec 32 := 1#32
  let v1733 : BitVec 32 := Scalar.muli v7 c1_i32_1947
  let v1734 : BitVec 32 := Scalar.addi c0_i32_1948 v1733
  v1734.toNat
def k0_dev84 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_1957 : BitVec 32 := 1#32
  let v1743 : BitVec 32 := Scalar.muli v5 c1_i32_1957
  let v1744 : BitVec 32 := Scalar.addi c0_i32_1958 v1743
  v1744.toNat
def k0_dev85 (d0 : Dev nD) : Nat :=
  let c0_i32_2003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2002 : BitVec 32 := 1#32
  let v1781 : BitVec 32 := Scalar.muli v5 c1_i32_2002
  let v1782 : BitVec 32 := Scalar.addi c0_i32_2003 v1781
  v1782.toNat
def k0_dev86 (d0 : Dev nD) : Nat :=
  let c0_i32_2006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2005 : BitVec 32 := 1#32
  let v1783 : BitVec 32 := Scalar.muli v7 c1_i32_2005
  let v1784 : BitVec 32 := Scalar.addi c0_i32_2006 v1783
  v1784.toNat
def k0_dev87 (d0 : Dev nD) : Nat :=
  let c0_i32_2044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2043 : BitVec 32 := 1#32
  let v1818 : BitVec 32 := Scalar.muli v7 c1_i32_2043
  let v1819 : BitVec 32 := Scalar.addi c0_i32_2044 v1818
  v1819.toNat
def k0_dev88 (d0 : Dev nD) : Nat :=
  let c0_i32_2054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2053 : BitVec 32 := 1#32
  let v1828 : BitVec 32 := Scalar.muli v5 c1_i32_2053
  let v1829 : BitVec 32 := Scalar.addi c0_i32_2054 v1828
  v1829.toNat
def k0_dev89 (d0 : Dev nD) : Nat :=
  let c0_i32_2099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2098 : BitVec 32 := 1#32
  let v1866 : BitVec 32 := Scalar.muli v5 c1_i32_2098
  let v1867 : BitVec 32 := Scalar.addi c0_i32_2099 v1866
  v1867.toNat
def k0_dev90 (d0 : Dev nD) : Nat :=
  let c0_i32_2102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2101 : BitVec 32 := 1#32
  let v1868 : BitVec 32 := Scalar.muli v7 c1_i32_2101
  let v1869 : BitVec 32 := Scalar.addi c0_i32_2102 v1868
  v1869.toNat
def k0_dev91 (d0 : Dev nD) : Nat :=
  let c0_i32_2140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2139 : BitVec 32 := 1#32
  let v1903 : BitVec 32 := Scalar.muli v7 c1_i32_2139
  let v1904 : BitVec 32 := Scalar.addi c0_i32_2140 v1903
  v1904.toNat
def k0_dev92 (d0 : Dev nD) : Nat :=
  let c0_i32_2150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2149 : BitVec 32 := 1#32
  let v1913 : BitVec 32 := Scalar.muli v5 c1_i32_2149
  let v1914 : BitVec 32 := Scalar.addi c0_i32_2150 v1913
  v1914.toNat
def k0_dev93 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2194 : BitVec 32 := 1#32
  let v1951 : BitVec 32 := Scalar.muli v5 c1_i32_2194
  let v1952 : BitVec 32 := Scalar.addi c0_i32_2195 v1951
  v1952.toNat
def k0_dev94 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2197 : BitVec 32 := 1#32
  let v1953 : BitVec 32 := Scalar.muli v7 c1_i32_2197
  let v1954 : BitVec 32 := Scalar.addi c0_i32_2198 v1953
  v1954.toNat
def k0_dev95 (d0 : Dev nD) : Nat :=
  let c0_i32_2236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2235 : BitVec 32 := 1#32
  let v1988 : BitVec 32 := Scalar.muli v7 c1_i32_2235
  let v1989 : BitVec 32 := Scalar.addi c0_i32_2236 v1988
  v1989.toNat
def k0_dev96 (d0 : Dev nD) : Nat :=
  let c0_i32_2246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2245 : BitVec 32 := 1#32
  let v1998 : BitVec 32 := Scalar.muli v5 c1_i32_2245
  let v1999 : BitVec 32 := Scalar.addi c0_i32_2246 v1998
  v1999.toNat
def k0_dev97 (d0 : Dev nD) : Nat :=
  let c0_i32_2291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2290 : BitVec 32 := 1#32
  let v2036 : BitVec 32 := Scalar.muli v5 c1_i32_2290
  let v2037 : BitVec 32 := Scalar.addi c0_i32_2291 v2036
  v2037.toNat
def k0_dev98 (d0 : Dev nD) : Nat :=
  let c0_i32_2294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2293 : BitVec 32 := 1#32
  let v2038 : BitVec 32 := Scalar.muli v7 c1_i32_2293
  let v2039 : BitVec 32 := Scalar.addi c0_i32_2294 v2038
  v2039.toNat
def k0_dev99 (d0 : Dev nD) : Nat :=
  let c0_i32_2332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2331 : BitVec 32 := 1#32
  let v2073 : BitVec 32 := Scalar.muli v7 c1_i32_2331
  let v2074 : BitVec 32 := Scalar.addi c0_i32_2332 v2073
  v2074.toNat
def k0_dev100 (d0 : Dev nD) : Nat :=
  let c0_i32_2342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2341 : BitVec 32 := 1#32
  let v2083 : BitVec 32 := Scalar.muli v5 c1_i32_2341
  let v2084 : BitVec 32 := Scalar.addi c0_i32_2342 v2083
  v2084.toNat
def k0_dev101 (d0 : Dev nD) : Nat :=
  let c0_i32_2387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2386 : BitVec 32 := 1#32
  let v2121 : BitVec 32 := Scalar.muli v5 c1_i32_2386
  let v2122 : BitVec 32 := Scalar.addi c0_i32_2387 v2121
  v2122.toNat
def k0_dev102 (d0 : Dev nD) : Nat :=
  let c0_i32_2390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2389 : BitVec 32 := 1#32
  let v2123 : BitVec 32 := Scalar.muli v7 c1_i32_2389
  let v2124 : BitVec 32 := Scalar.addi c0_i32_2390 v2123
  v2124.toNat
def k0_dev103 (d0 : Dev nD) : Nat :=
  let c0_i32_2428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2427 : BitVec 32 := 1#32
  let v2158 : BitVec 32 := Scalar.muli v7 c1_i32_2427
  let v2159 : BitVec 32 := Scalar.addi c0_i32_2428 v2158
  v2159.toNat
def k0_dev104 (d0 : Dev nD) : Nat :=
  let c0_i32_2438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2437 : BitVec 32 := 1#32
  let v2168 : BitVec 32 := Scalar.muli v5 c1_i32_2437
  let v2169 : BitVec 32 := Scalar.addi c0_i32_2438 v2168
  v2169.toNat
def k0_dev105 (d0 : Dev nD) : Nat :=
  let c0_i32_2483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2482 : BitVec 32 := 1#32
  let v2206 : BitVec 32 := Scalar.muli v5 c1_i32_2482
  let v2207 : BitVec 32 := Scalar.addi c0_i32_2483 v2206
  v2207.toNat
def k0_dev106 (d0 : Dev nD) : Nat :=
  let c0_i32_2486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2485 : BitVec 32 := 1#32
  let v2208 : BitVec 32 := Scalar.muli v7 c1_i32_2485
  let v2209 : BitVec 32 := Scalar.addi c0_i32_2486 v2208
  v2209.toNat
def k0_dev107 (d0 : Dev nD) : Nat :=
  let c0_i32_2524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2523 : BitVec 32 := 1#32
  let v2243 : BitVec 32 := Scalar.muli v7 c1_i32_2523
  let v2244 : BitVec 32 := Scalar.addi c0_i32_2524 v2243
  v2244.toNat
def k0_dev108 (d0 : Dev nD) : Nat :=
  let c0_i32_2534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2533 : BitVec 32 := 1#32
  let v2253 : BitVec 32 := Scalar.muli v5 c1_i32_2533
  let v2254 : BitVec 32 := Scalar.addi c0_i32_2534 v2253
  v2254.toNat
def k0_dev109 (d0 : Dev nD) : Nat :=
  let c0_i32_2579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2578 : BitVec 32 := 1#32
  let v2291 : BitVec 32 := Scalar.muli v5 c1_i32_2578
  let v2292 : BitVec 32 := Scalar.addi c0_i32_2579 v2291
  v2292.toNat
def k0_dev110 (d0 : Dev nD) : Nat :=
  let c0_i32_2582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2581 : BitVec 32 := 1#32
  let v2293 : BitVec 32 := Scalar.muli v7 c1_i32_2581
  let v2294 : BitVec 32 := Scalar.addi c0_i32_2582 v2293
  v2294.toNat
def k0_dev111 (d0 : Dev nD) : Nat :=
  let c0_i32_2620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2619 : BitVec 32 := 1#32
  let v2328 : BitVec 32 := Scalar.muli v7 c1_i32_2619
  let v2329 : BitVec 32 := Scalar.addi c0_i32_2620 v2328
  v2329.toNat
def k0_dev112 (d0 : Dev nD) : Nat :=
  let c0_i32_2630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2629 : BitVec 32 := 1#32
  let v2338 : BitVec 32 := Scalar.muli v5 c1_i32_2629
  let v2339 : BitVec 32 := Scalar.addi c0_i32_2630 v2338
  v2339.toNat
def k0_dev113 (d0 : Dev nD) : Nat :=
  let c0_i32_2675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2674 : BitVec 32 := 1#32
  let v2376 : BitVec 32 := Scalar.muli v5 c1_i32_2674
  let v2377 : BitVec 32 := Scalar.addi c0_i32_2675 v2376
  v2377.toNat
def k0_dev114 (d0 : Dev nD) : Nat :=
  let c0_i32_2678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2677 : BitVec 32 := 1#32
  let v2378 : BitVec 32 := Scalar.muli v7 c1_i32_2677
  let v2379 : BitVec 32 := Scalar.addi c0_i32_2678 v2378
  v2379.toNat
def k0_dev115 (d0 : Dev nD) : Nat :=
  let c0_i32_2716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2715 : BitVec 32 := 1#32
  let v2413 : BitVec 32 := Scalar.muli v7 c1_i32_2715
  let v2414 : BitVec 32 := Scalar.addi c0_i32_2716 v2413
  v2414.toNat
def k0_dev116 (d0 : Dev nD) : Nat :=
  let c0_i32_2726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2725 : BitVec 32 := 1#32
  let v2423 : BitVec 32 := Scalar.muli v5 c1_i32_2725
  let v2424 : BitVec 32 := Scalar.addi c0_i32_2726 v2423
  v2424.toNat
def k0_dev117 (d0 : Dev nD) : Nat :=
  let c0_i32_2771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2770 : BitVec 32 := 1#32
  let v2461 : BitVec 32 := Scalar.muli v5 c1_i32_2770
  let v2462 : BitVec 32 := Scalar.addi c0_i32_2771 v2461
  v2462.toNat
def k0_dev118 (d0 : Dev nD) : Nat :=
  let c0_i32_2774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2773 : BitVec 32 := 1#32
  let v2463 : BitVec 32 := Scalar.muli v7 c1_i32_2773
  let v2464 : BitVec 32 := Scalar.addi c0_i32_2774 v2463
  v2464.toNat
def k0_dev119 (d0 : Dev nD) : Nat :=
  let c0_i32_2812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2811 : BitVec 32 := 1#32
  let v2498 : BitVec 32 := Scalar.muli v7 c1_i32_2811
  let v2499 : BitVec 32 := Scalar.addi c0_i32_2812 v2498
  v2499.toNat
def k0_dev120 (d0 : Dev nD) : Nat :=
  let c0_i32_2822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2821 : BitVec 32 := 1#32
  let v2508 : BitVec 32 := Scalar.muli v5 c1_i32_2821
  let v2509 : BitVec 32 := Scalar.addi c0_i32_2822 v2508
  v2509.toNat
def k0_dev121 (d0 : Dev nD) : Nat :=
  let c0_i32_2867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2866 : BitVec 32 := 1#32
  let v2546 : BitVec 32 := Scalar.muli v5 c1_i32_2866
  let v2547 : BitVec 32 := Scalar.addi c0_i32_2867 v2546
  v2547.toNat
def k0_dev122 (d0 : Dev nD) : Nat :=
  let c0_i32_2870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2869 : BitVec 32 := 1#32
  let v2548 : BitVec 32 := Scalar.muli v7 c1_i32_2869
  let v2549 : BitVec 32 := Scalar.addi c0_i32_2870 v2548
  v2549.toNat
def k0_dev123 (d0 : Dev nD) : Nat :=
  let c0_i32_2908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2907 : BitVec 32 := 1#32
  let v2583 : BitVec 32 := Scalar.muli v7 c1_i32_2907
  let v2584 : BitVec 32 := Scalar.addi c0_i32_2908 v2583
  v2584.toNat
def k0_dev124 (d0 : Dev nD) : Nat :=
  let c0_i32_2918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_2917 : BitVec 32 := 1#32
  let v2593 : BitVec 32 := Scalar.muli v5 c1_i32_2917
  let v2594 : BitVec 32 := Scalar.addi c0_i32_2918 v2593
  v2594.toNat
abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Hops.lean ====
/-
  The kernel's body as a ring of hops. The printed body is one long straight line: a handshake, the two first
  blocks, and thirty-one hops that differ only in the slot they send from, the slot they receive into and the
  rows they multiply. Here each step of a hop is written ONCE, for either direction (`true`: the half of the
  columns that travels to the next device; `false`: the half that travels to the device before), and the body is
  shown to be the handshake, the first blocks, hop 0, hops 1 … 29 by recursion, and hop 30 (`body_eq`).
-/
module

public import proofs.«01_k».proof.Proof.Gen.KernelIdeal
public import proofs.«01_k».proof.Proof.Gen.KernelIdeal.Launch
public import Idealize.ShloMosaic.Lib.Pipeline.Regions

@[expose] public section

noncomputable section

namespace Cert.Proof

open Cert.KernelIdeal Cert.KernelIdeal.Gen
open Idealize.ShloMosaic
open Idealize.ShloMosaic.TcCoe
open Idealize.SL.Sem

variable {F : FTy → Type} [FloatOps F]

/-! ## Buffers, slots, semaphores -/

/-- The staged operands, the scales and the result. -/
abbrev xM : Memref sig .tc .vmem S4096x128 .fp8e5m2 := Memref.whole cc0_stg0_0
abbrev wM : Memref sig .tc .vmem S128x8192 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S128x8192 .f32 := Memref.whole cc0_stg4_0

/-- The buffer of the partial sums travelling in a direction: two slots of one block each. -/
abbrev commRef (dir : Bool) : Ref sig .tc := bif dir then cc0_scratch0 else cc0_scratch1
/-- The same buffer, as the kernel takes it. -/
def comm (dir : Bool) : Memref sig .tc .vmem S2x128x4096 .f32 :=
  match dir with
  | true => Memref.whole cc0_scratch0
  | false => Memref.whole cc0_scratch1

/-- The semaphores of the sends, of the receipts, of the credits, and of the handshake. -/
def sendA (dir : Bool) : DmaSems sig S2 := match dir with | true => cc0_scratch2 | false => cc0_scratch4
def recvA (dir : Bool) : DmaSems sig S2 := match dir with | true => cc0_scratch3 | false => cc0_scratch5
def credS (dir : Bool) : Sem sig :=
  match dir with
  | true => (cc0_scratch6 : Sems sig S_).sem
  | false => (cc0_scratch7 : Sems sig S_).sem
abbrev barS : Sem sig := (SemArray.scalar (sig.barrier 0 rfl) : Sems sig S_).sem

/-- The slot hop `h` sends from; it receives into the slot of `h + 1`. -/
def sl (h : ℕ) : Fin 2 := ⟨h % 2, Nat.mod_lt _ Nat.two_pos⟩

/-- A slot lies in its buffer, and its semaphore in its array. -/
theorem slot_inb (s : Fin 2) : ∀ a, (![s.val, 0, 0] : Fin 3 → Nat) a + S1x128x4096.size a ≤ S2x128x4096.size a := by
  revert s; decide
theorem sem_inb (s : Fin 2) : ∀ a, (![s.val] : Fin 1 → Nat) a + S1.size a ≤ S2.size a := by
  revert s; decide

/-- A slot, as a part of its buffer and as the block the kernel copies. -/
abbrev slotR (s : Fin 2) : Rect S2x128x4096 := Rect.unit (s := S2x128x4096) ![s.val, 0, 0] S1x128x4096.size (slot_inb s)
def slotM (dir : Bool) (s : Fin 2) : Memref sig .tc .vmem S128x4096 .f32 :=
  ((comm dir).slice (slotR s) (fun _ => rfl)).squeeze S128x4096 squeezes_S1x128x4096_S128x4096
/-- A slot's semaphore. -/
def dsem (a : DmaSems sig S2) (s : Fin 2) : DmaSem sig :=
  ((a.slice (Rect.unit (s := S2) ![s.val] S1.size (sem_inb s))).squeeze S_ squeezes_S1_S_).sem

/-- A slot is made of whole words. -/
theorem slot_wordExact (dir : Bool) (s : Fin 2) : (slotM dir s).view.WordExact := by
  cases dir <;> exact (View.wordExact_bits rfl).reshape _ _

/-- The columns of `w` and of the result a direction works on. -/
def col (dir : Bool) : ℕ := match dir with | true => 0 | false => 4096
/-- Those columns lie in the result. -/
theorem col_inb (dir : Bool) : ∀ a, (![0, col dir] : Fin 2 → Nat) a + S128x4096.size a ≤ S128x8192.size a := by
  cases dir <;> decide
abbrev colR (dir : Bool) : Rect S128x8192 := Rect.unit (s := S128x8192) ![0, col dir] S128x4096.size (col_inb dir)

/-- A block of 128 rows of `x`, at given offsets. -/
structure Rows where
  off : Fin 2 → ℕ
  inb : ∀ a, off a + S128x128.size a ≤ S4096x128.size a
/-- The same block, as a part of `x`. -/
abbrev Rows.rect (o : Rows) : Rect S4096x128 := Rect.unit (s := S4096x128) o.off S128x128.size o.inb

/-! ## The values a step computes -/

/-- The product of a block of rows with a half of the columns; and with the slot's shape. -/
def blk (x : Vec F S128x128 .fp8e5m2) (w : Vec F S128x4096 .fp8e5m2) : FVec F S128x4096 .f32 :=
  matmul dot_S128x128_S128x4096_S128x4096_1_0_0_1_n_n none (shapeCast S128x128 x shapeCasts_S128x128_S128x128)
    (shapeCast S128x4096 w shapeCasts_S128x4096_S128x4096) (constant S128x4096 .f32 0x00000000#32)
def blk1 (x : Vec F S128x128 .fp8e5m2) (w : Vec F S128x4096 .fp8e5m2) : Vec F S1x128x4096 .f32 :=
  shapeCast S1x128x4096 (blk x w) shapeCasts_S128x4096_S1x128x4096
/-- A received partial sum with the product added; and with the slot's shape. -/
def sum (a : Vec F S1x128x4096 .f32) (x : Vec F S128x128 .fp8e5m2) (w : Vec F S128x4096 .fp8e5m2) : FVec F S128x4096 .f32 :=
  addf (shapeCast S128x4096 a shapeCasts_S1x128x4096_S128x4096) (blk x w)
def sum1 (a : Vec F S1x128x4096 .f32) (x : Vec F S128x128 .fp8e5m2) (w : Vec F S128x4096 .fp8e5m2) : Vec F S1x128x4096 .f32 :=
  shapeCast S1x128x4096 (sum a x w) shapeCasts_S128x4096_S1x128x4096
/-- The last sum, times the product of the scales. -/
def scaled (a : Vec F S1x128x4096 .f32) (x : Vec F S128x128 .fp8e5m2) (w : Vec F S128x4096 .fp8e5m2) (p q : Elt F .f32) : Vec F S128x4096 .f32 :=
  mulf (sum a x w) (broadcast S128x4096 (Scalar.mulf p q))

/-! ## The steps, each followed by what runs after it -/

/-- The programs of the kernel, from some point on. -/
abbrev PP (F : FTy → Type) : Type _ := Prog (TpuEff nD τ sig (Elt F) Λ₀ .tc) PUnit

/-- A unit to a device's semaphore. -/
def kSignal (n : Dev nD) (s : Sem sig) (k : PP F) : PP F :=
  .op (.semSignal (n, .tc) s (1#32 : BitVec 32).toInt) fun _ => k
/-- The wait for a credit. -/
def kCredWait (dir : Bool) (k : PP F) : PP F := .op (.semWait (credS dir) (1#32 : BitVec 32).toInt) fun _ => k
/-- The copy of a hop's slot into the neighbour's next slot. -/
def kSend (dir : Bool) (n : Dev nD) (h : ℕ) (k : PP F) : PP F :=
  .op (.enqueueDma (slotM dir (sl h)) (.remote (Dev.tc n) (slotM dir (sl (h + 1))) (.dma (dsem (sendA dir) (sl h))))
    (.dma (dsem (recvA dir) (sl (h + 1)))) (slot_wordExact _ _) (slot_wordExact _ _) ⟨⟨rfl, Or.inl rfl⟩, trivial⟩) fun _ => k
/-- The wait until the slot has been read. -/
def kWaitSend (dir : Bool) (h : ℕ) (k : PP F) : PP F :=
  .op (.waitDma2 (dsem (sendA dir) (sl h)) (slotM dir (sl (h + 1))) (slotM dir (sl h)) (slot_wordExact _ _) (slot_wordExact _ _)) fun _ => k
/-- The wait for what arrives. -/
def kWaitRecv (dir : Bool) (h : ℕ) (k : PP F) : PP F :=
  .op (.waitDma2 (dsem (recvA dir) (sl (h + 1))) (slotM dir (sl h)) (slotM dir (sl (h + 1))) (slot_wordExact _ _) (slot_wordExact _ _)) fun _ => k
/-- The first product, stored in the first slot. -/
def kInit (dir : Bool) (o : Rows) (k : PP F) : PP F :=
  .op (.load xM o.rect.toLoadRect (View.loadsAt_vmem h_S128x128)) fun x =>
  .op (.load wM (colR dir).toLoadRect (View.loadsAt_vmem h_S128x4096)) fun w =>
  .op (.load (comm dir) (slotR (sl 0)).toLoadRect (View.loadsAt_vmem h_S1x128x4096)) fun _ =>
  .op (.store (comm dir) (slotR (sl 0)) (blk1 x w) Finset.univ (View.stores_vmem_bits_univ h_S1x128x4096 rfl) (.inl rfl)) fun _ => k
/-- A product added to what arrived. -/
def kAdd (dir : Bool) (h : ℕ) (o : Rows) (k : PP F) : PP F :=
  .op (.load (comm dir) (slotR (sl (h + 1))).toLoadRect (View.loadsAt_vmem h_S1x128x4096)) fun a =>
  .op (.load xM o.rect.toLoadRect (View.loadsAt_vmem h_S128x128)) fun x =>
  .op (.load wM (colR dir).toLoadRect (View.loadsAt_vmem h_S128x4096)) fun w =>
  .op (.load (comm dir) (slotR (sl (h + 1))).toLoadRect (View.loadsAt_vmem h_S1x128x4096)) fun _ =>
  .op (.store (comm dir) (slotR (sl (h + 1))) (sum1 a x w) Finset.univ (View.stores_vmem_bits_univ h_S1x128x4096 rfl) (.inl rfl)) fun _ => k
/-- The last product added, the scales multiplied in, the result stored. -/
def kOut (dir : Bool) (o : Rows) (p q : Elt F .f32) (k : PP F) : PP F :=
  .op (.load (comm dir) (slotR (sl 31)).toLoadRect (View.loadsAt_vmem h_S1x128x4096)) fun a =>
  .op (.load xM o.rect.toLoadRect (View.loadsAt_vmem h_S128x128)) fun x =>
  .op (.load wM (colR dir).toLoadRect (View.loadsAt_vmem h_S128x4096)) fun w =>
  .op (.load oM (colR dir).toLoadRect (View.loadsAt_vmem h_S128x4096)) fun _ =>
  .op (.store oM (colR dir) (scaled a x w p q) Finset.univ (View.stores_vmem_bits_univ h_S128x4096 rfl) (.inl rfl)) fun _ => k
/-- The read of a scale. -/
def kScale (m : Memref sig .tc .smem S1 .f32) (k : Elt F .f32 → PP F) : PP F :=
  smemLoad m (Rect.unit (s := S1) ![0] S1.size inb_S1_S1_0) numel1_S1 rfl >>= k

/-! ## The body -/

/-- The device a direction's transfers go to, and the one its credits go to, as the kernel computes them. -/
def fwdD (c : Dev nD) (dir : Bool) : Dev nD := match dir with | true => ⟨k0_dev3 c, k0_dev3_lt c⟩ | false => ⟨k0_dev4 c, k0_dev4_lt c⟩
/-- The rows of the first product, and of those after each hop, at the offsets the kernel computes. -/
def rowsFst (c : Dev nD) (dir : Bool) : Rows := match dir with | true => ⟨k0_off1 c, k0_off1_inb c⟩ | false => ⟨k0_off2 c, k0_off2_inb c⟩
def rowsAt (c : Dev nD) (dir : Bool) (h : Fin 31) : Rows :=
  match dir with
  | true => ⟨k0_off3 c (BitVec.ofNat 32 h.val), k0_off3_inb c h⟩
  | false => ⟨k0_off4 c (BitVec.ofNat 32 h.val), k0_off4_inb c h⟩

variable (nx : Bool → Dev nD) (rows : Bool → Fin 31 → Rows)

/-- The handshake: a unit to each neighbour's barrier, a wait for two, and the two first blocks. -/
def kStart (fst : Bool → Rows) (k : PP F) : PP F :=
  kSignal (nx false) barS <| kSignal (nx true) barS <|
  .op (.semWait barS (2#32 : BitVec 32).toInt) fun _ =>
  kInit true (fst true) <| kInit false (fst false) k
/-- A hop's transfers, started and completed both ways. -/
def kMove (h : ℕ) (k : PP F) : PP F :=
  kSend true (nx true) h <| kSend false (nx false) h <|
  kWaitSend true h <| kWaitRecv true h <| kWaitSend false h <| kWaitRecv false h k
/-- The waits for the neighbours' credits. -/
def kCredits (k : PP F) : PP F := kCredWait true <| kCredWait false k
/-- What a hop before the last does with what it received. -/
def kAccum (h : Fin 31) (k : PP F) : PP F :=
  kSignal (nx false) (credS true) <| kSignal (nx true) (credS false) <|
  kAdd true h.val (rows true h) <| kAdd false h.val (rows false h) k
/-- What the last hop does. -/
def kLast : PP F :=
  kScale sxM fun p => kScale swM fun q =>
  kOut true (rows true 30) p q <| kOut false (rows false 30) p q <| .ret ⟨⟩

/-- The last `n` of the hops 1 … 29, then hop 30. -/
def kHops : (n : ℕ) → n < 30 → PP F
  | 0, _ => kCredits <| kMove nx 30 <| kLast rows
  | n + 1, hn => kCredits <| kMove nx (29 - n) <| kAccum nx rows ⟨29 - n, by omega⟩ <| kHops n (by omega)

/-- The whole body, by hops. -/
def kBody (fst : Bool → Rows) : PP F :=
  kStart nx fst <| kMove nx 0 <| kAccum nx rows 0 <| kHops nx rows 29 (by decide)

set_option maxRecDepth 100000 in
/-- The kernel's body is this program. -/
theorem body_eq :
    cc0_body (F := F) xM (Memref.isWhole_whole _) wM (Memref.isWhole_whole _) sxM (Memref.isWhole_whole _) swM (Memref.isWhole_whole _)
        oM (Memref.isWhole_whole _) (Memref.whole cc0_scratch0) (Memref.isWhole_whole _) (Memref.whole cc0_scratch1) (Memref.isWhole_whole _)
        cc0_scratch2 cc0_scratch3 cc0_scratch4 cc0_scratch5 cc0_scratch6 cc0_scratch7
      = .op .deviceId fun c => kBody (fwdD c) (rowsAt c) (rowsFst c) := by
  chain_rfl

end Cert.Proof

end
-- ==== Proof.Same.lean ====
/-
  The kernel as printed and the kernel over the extended reals are one program, at any float values.
-/
module

public import proofs.«01_k».proof.Proof.Gen.Kernel
public import proofs.«01_k».proof.Proof.Hops

@[expose] public section

noncomputable section

namespace Cert.Proof

open Idealize.ShloMosaic

variable {F : FTy → Type} [FloatOps F]

set_option maxRecDepth 100000 in
/-- Kernel and KernelIdeal have the same body, -/
theorem body_same : Cert.Kernel.cc0_body (F := F) = Cert.KernelIdeal.cc0_body (F := F) := by
  funext a0 h0 a1 h1 a2 h2 a3 h3 a4 h4 a5 h5 a6 h6 s2 s3 s4 s5 s6 s7
  chain_rfl

/-- the same table of bodies, -/
theorem defs₀_same : Cert.Kernel.defs₀ (F := F) = Cert.KernelIdeal.defs₀ (F := F) := by
  refine congrArg Defs.onTc (funext fun l => funext fun a => ?_)
  match l, a with
  | ⟨0, _⟩, (t, s) =>
    refine Eq.trans (b := Cert.KernelIdeal.cc0_body (F := F) _ _ _ _ _ _ _ _ _ _ _ _ _ _ _ _ _ _ _ _) ?_ rfl
    show Cert.Kernel.cc0_body (F := F) _ _ _ _ _ _ _ _ _ _ _ _ _ _ _ _ _ _ _ _ = _
    rw [body_same]

/-- the same definitions, -/
theorem defs_same : Cert.Kernel.defs (F := F) = Cert.KernelIdeal.defs (F := F) :=
  congrArg (Pipeline.defs (Cert.KernelIdeal.pcfgs (F := F))) (defs₀_same (F := F))

/-- and the same main program. -/
theorem main_same : Cert.Kernel.main (F := F) = Cert.KernelIdeal.main (F := F) := rfl

end Cert.Proof

end
-- ==== Proof.Common.lean ====
/-
  The ring of thirty-two devices: its neighbours, the semaphore cells a device shares with them, what a slot of a
  travelling partial sum holds at each hop, and the schedule of who pays which cell with what.

  A partial sum travels one device per hop. In the direction `true` it goes to the next device, in the direction
  `false` to the device before. Each direction has two slots per device: at hop `h` a device sends from slot
  `h mod 2` and receives into the other one.
-/
module

public import proofs.«01_k».proof.Proof.Hops
public import Idealize.ShloMosaic.Lib.Pipeline.Launch
public import Idealize.ShloMosaic.Lib.Pipeline.Kit
public import Idealize.ShloMosaic.Lib.Pipeline.Value
public import Idealize.ShloMosaic.Lib.Tactic
public import Mathlib.Algebra.BigOperators.Intervals

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The state of the rounds of the shared semaphores. -/
abbrev UB : Type := URounds (GSem nD τ sig) Bool
/-- The state the proof adds: of the staging, and of the rounds. -/
abbrev UU : Type := UR sig nD τ × UB

local notation "𝕄" => MT nD τ sig ℕ (Elt F) ℕ UU ℕ

/-- The staging's part of it. -/
abbrev EP : Emb (UR sig nD τ) (MT nD τ sig ℕ (Elt F) ℕ UU ℕ) := embL
/-- The rounds' part of it. -/
abbrev ER : Emb UB (MT nD τ sig ℕ (Elt F) ℕ UU ℕ) := embR

/-! ## The ring -/

set_option backward.proofsInPublic true in
/-- The device a direction's partial sums go to. -/
def fwd (dir : Bool) (c : Dev nD) : Dev nD := ⟨(c.val + (bif dir then 1 else 31)) % 32, Nat.mod_lt _ (by decide)⟩
/-- The device they come from. -/
abbrev bwd (dir : Bool) (c : Dev nD) : Dev nD := fwd (!dir) c

/-- Going on and then back stays where it was. -/
theorem bwd_fwd (dir : Bool) (c : Dev nD) : bwd dir (fwd dir c) = c := by revert dir c; decide
/-- And back and then on. -/
theorem fwd_bwd (dir : Bool) (c : Dev nD) : fwd dir (bwd dir c) = c := by revert dir c; decide
/-- A step along the ring, as a permutation of the devices. -/
def ringE (dir : Bool) : Dev nD ≃ Dev nD := ⟨fwd dir, bwd dir, bwd_fwd dir, fwd_bwd dir⟩
/-- The neighbour as the kernel computes it is the neighbour on the ring. -/
theorem fwdD_eq (c : Dev nD) : fwdD c = fun dir => fwd dir c := by
  funext dir; cases dir
  · exact Fin.ext (k0_dev4_eq c)
  · exact Fin.ext (k0_dev3_eq c)

/-- The slots alternate. -/
theorem sl_add_two (h : ℕ) : sl (h + 2) = sl h := Fin.ext (Nat.add_mod_right h 2)

/-! ## The cells -/

/-- The kinds of semaphore a device shares: the entry handshake's, and per direction the two senders', the two
    receivers' and the credit's. -/
inductive CK : Type where
  | bar : CK
  | snd : Bool → Fin 2 → CK
  | rcv : Bool → Fin 2 → CK
  | crd : Bool → CK
deriving DecidableEq

/-- The kinds listed; the kernel's own first. -/
def ckOwn : List CK := [.snd true 0, .snd true 1, .rcv true 0, .rcv true 1, .snd false 0, .snd false 1, .rcv false 0, .rcv false 1, .crd true, .crd false]
/-- All the kinds: the kernel's own and the handshake's. -/
def ckList : List CK := ckOwn ++ [.bar]
/-- No kind is missing from the list. -/
theorem mem_ckList (k : CK) : k ∈ ckList := by
  rcases k with _ | ⟨d, s⟩ | ⟨d, s⟩ | d
  · decide
  all_goals revert d
  · revert s; decide
  · revert s; decide
  · decide
instance : Fintype CK := ⟨ckList.toFinset, fun k => List.mem_toFinset.mpr (mem_ckList k)⟩

/-- The semaphore of a kind. -/
def csem : CK → SemLoc sig
  | .bar => .reg barS
  | .snd d s => .dma (dsem (sendA d) s)
  | .rcv d s => .dma (dsem (recvA d) s)
  | .crd d => .reg (credS d)
/-- The kind of a semaphore, of those that are shared. -/
def kindOf (sm : SemLoc sig) : Option CK := ckList.find? fun k => csem k = sm
/-- A kind's semaphore is of that kind. -/
theorem kindOf_csem : ∀ k : CK, kindOf (csem k) = some k := by decide
attribute [irreducible] kindOf
/-- A device's semaphore of a kind. -/
abbrev cell (k : CK) (c : Dev nD) : GSem nD τ sig := ((c : Thread nD τ), csem k)

/-- Different kinds or devices have different semaphores. -/
theorem cell_inj {k k' : CK} {c c' : Dev nD} (h : cell k c = cell k' c') : k = k' ∧ c = c' := by
  have h2 : csem k = csem k' := congrArg Prod.snd h
  have h1 : c = c' := by have := congrArg (fun g : GSem nD τ sig => g.1.1) h; exact this
  exact ⟨Option.some.inj ((kindOf_csem k).symm.trans ((congrArg kindOf h2).trans (kindOf_csem k'))), h1⟩

/-! ## The slots -/

/-- The units a whole slot's transfer completes with. -/
def N : ℕ := (slotM true 0).view.dmaCredit
/-- A transfer completes with some units. -/
theorem N_pos : 0 < N := View.dmaCredit_pos _ (by decide)
/-- Every slot is of the same size, so its transfer completes with the same units. -/
theorem credit_eq (dir : Bool) (s : Fin 2) : (slotM dir s).view.dmaCredit = N := by cases dir <;> rfl
attribute [irreducible] N

/-- Device `c` holds slot `s` of a direction, and it reads `v`. -/
def slotPts (dir : Bool) (s : Fin 2) (c : Dev nD) (v : Vec F S128x4096 .f32) : sProp 𝕄 :=
  iprop(∃ f : Buf (Elt F) ((slotM dir s).view.loc (c : Thread nD τ)), ⌜(slotM dir s).view.read (Elt F) f = v⌝
    ∗ ((slotM dir s).view.loc (c : Thread nD τ) ↦[(slotM dir s).view.set]{fullShare} f))
/-- Device `c` holds the slot, whatever it reads. -/
def slotAny (dir : Bool) (s : Fin 2) (c : Dev nD) : sProp 𝕄 := iprop(∃ v, slotPts (F := F) dir s c v)

omit [FloatOps F] in
/-- Such a slot may be handed over through a semaphore. -/
instance slotPts_storable (dir : Bool) (s : Fin 2) (c : Dev nD) (v) : BI.Storable (upEmb : UEmb _ 𝕄) (slotPts (F := F) dir s c v) := by
  unfold slotPts; infer_instance
omit [FloatOps F] in
instance slotAny_storable (dir : Bool) (s : Fin 2) (c : Dev nD) : BI.Storable (upEmb : UEmb _ 𝕄) (slotAny (F := F) dir s c) := by
  unfold slotAny; infer_instance

omit [FloatOps F] in
/-- A slot squeezed has the elements of the slot. -/
theorem slot_set (dir : Bool) (s : Fin 2) : (slotM dir s).view.set = ((comm dir).access (slotR s)).set :=
  View.set_reshape (v := (comm dir).access (slotR s)) _
omit [FloatOps F] in
/-- A load of the slot reads the slot's value, shape-cast. -/
theorem slot_load (dir : Bool) (s : Fin 2) (f : (comm dir).view.ty.Contents (Elt F)) :
    shapeCast S128x4096 ((comm dir).view.readAt (Elt F) (slotR s).toLoadRect f) shapeCasts_S1x128x4096_S128x4096
      = (slotM dir s).view.read (Elt F) f := rfl
omit [FloatOps F] in
/-- The slot reads what was stored into it. -/
theorem slot_store (dir : Bool) (s : Fin 2) (f : (comm dir).view.ty.Contents (Elt F)) (w : Vec F S128x4096 .f32) :
    (slotM dir s).view.read (Elt F) (((comm dir).access (slotR s)).write (Elt F) f (shapeCast S1x128x4096 w shapeCasts_S128x4096_S1x128x4096) Finset.univ) = w := by
  show shapeCast S128x4096 (((comm dir).access (slotR s)).read (Elt F) (((comm dir).access (slotR s)).write (Elt F) f
    (shapeCast S1x128x4096 w shapeCasts_S128x4096_S1x128x4096) Finset.univ)) shapeCasts_S1x128x4096_S128x4096 = w
  rw [View.read_write_univ]
  exact Idealize.ShloMosaic.shapeCast_shapeCast _ _ _

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The four arguments as staged on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def pstg (c : Dev nD) : (cc0_stg2_0 : Ref sig .tc).ty.Contents (Elt F) :=
  (win0_2.blk (0 : Fin 1)).view.read (Elt F) ((s₀ m ρ).mem ((c : Thread nD τ).loc main_arg2))
def qstg (c : Dev nD) : (cc0_stg3_0 : Ref sig .tc).ty.Contents (Elt F) :=
  (win0_3.blk (0 : Fin 1)).view.read (Elt F) ((s₀ m ρ).mem ((c : Thread nD τ).loc main_arg3))

/-- The rows a device multiplies after hop `h`. -/
def rowsN (c : Dev nD) (dir : Bool) (h : ℕ) : Rows := rowsAt c dir ⟨h % 31, Nat.mod_lt _ (by decide)⟩
/-- For a hop of the kernel they are the rows at its offsets. -/
theorem rowsAt_eq (c : Dev nD) (dir : Bool) (h : Fin 31) : rowsAt c dir h = rowsN c dir h.val := by
  unfold rowsN; congr 1; exact Fin.ext (Nat.mod_eq_of_lt h.isLt).symm

/-- A device's product for some rows, in a direction's half of the columns. -/
def prod (c : Dev nD) (dir : Bool) (o : Rows) : FVec F S128x4096 .f32 :=
  blk ((xM : Memref sig .tc .vmem S4096x128 .fp8e5m2).view.readAt (Elt F) o.rect.toLoadRect (xstg m ρ c))
    ((wM : Memref sig .tc .vmem S128x8192 .fp8e5m2).view.readAt (Elt F) (colR dir).toLoadRect (wstg m ρ c))
/-- The partial sum device `c` sends at hop `h`. -/
def acc (dir : Bool) : ℕ → Dev nD → FVec F S128x4096 .f32
  | 0, c => prod m ρ c dir (rowsFst c dir)
  | h + 1, c => addf (acc dir h (bwd dir c)) (prod m ρ c dir (rowsN c dir h))

/-! ## The schedule -/

/-- The payments due in a round: at the handshake one from each neighbour, else one, as long as there are hops. -/
def dutiesK : CK → ℕ → Finset Bool
  | .bar, r => if r = 0 then Finset.univ else ∅
  | .snd _ s, r => if 2 * r + s.val < 31 then {false} else ∅
  | .rcv _ s, r => if 2 * r + (1 - s.val) < 31 then {false} else ∅
  | .crd _, r => if r < 30 then {false} else ∅
/-- The units of a payment: those of a transfer, or one. -/
def amountK : CK → ℕ
  | .bar => 1 | .snd _ _ => N | .rcv _ _ => N | .crd _ => 1
/-- No payment is of nothing. -/
theorem amountK_pos : ∀ k : CK, 0 < amountK k
  | .bar => Nat.one_pos | .snd _ _ => N_pos | .rcv _ _ => N_pos | .crd _ => Nat.one_pos
/-- What is handed over with a payment of device `c`'s cell: at the handshake the neighbour's receiving slot; with a
    transfer the slot it filled, at the sender's partial sum; with a completed send the slot it read; with a credit
    the slot the receiver has forwarded. -/
def payK (c : Dev nD) : CK → ℕ → Bool → sProp 𝕄
  | .bar, _, d => iprop(slotAny (F := F) d 1 (fwd d c) ∗ reached ER (cell (.rcv d 1) (fwd d c)) 0)
  | .snd dir s, r, _ => slotPts dir s c (acc m ρ dir (2 * r + s.val) c)
  | .rcv dir s, r, _ => iprop(slotPts dir s c (acc m ρ dir (2 * r + (1 - s.val)) (bwd dir c)) ∗ reached ER (cell (.crd dir) (bwd dir c)) (2 * r + (1 - s.val)))
  | .crd dir, r, _ => iprop(slotAny (F := F) dir (sl r) (fwd dir c) ∗ reached ER (cell (.rcv dir (sl r)) (fwd dir c)) ((r + 1) / 2))

/-- All that is handed over may be. -/
instance payK_storable (c : Dev nD) (k : CK) (r : ℕ) (d : Bool) : BI.Storable (upEmb : UEmb _ 𝕄) (payK (F := F) m ρ c k r d) := by
  cases k <;> (unfold payK; infer_instance)

/-- The schedule of all shared semaphores: a round's payments, their units, and what each hands over. -/
def ringRd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK m ρ g.1.1 k r d | none => iprop(emp)
  amount_pos g _ _ _ := by
    split
    · exact amountK_pos _
    · exact Nat.one_pos

instance ringRd_payload_storable (g : GSem nD τ sig) (r : ℕ) (d : Bool) :
    BI.Storable (upEmb : UEmb _ 𝕄) ((ringRd (F := F) m ρ).payload g r d) := by
  show BI.Storable upEmb (match kindOf g.2 with | some k => payK m ρ g.1.1 k r d | none => iprop(emp))
  split <;> infer_instance

section Sched
variable (k : CK) (c : Dev nD) (r : ℕ) (d : Bool)

/-- The handshake has one payment from each neighbour. -/
theorem duties_bar : dutiesK .bar 0 = Finset.univ := by decide
/-- The payments of a cell are those of its kind. -/
theorem duties_cell : (ringRd (F := F) m ρ).duties (cell k c) r = dutiesK k r := by
  dsimp only [ringRd]; rw [if_pos rfl, kindOf_csem]
/-- So are their units. -/
theorem amount_cell : (ringRd (F := F) m ρ).amount (cell k c) r d = amountK k := by
  dsimp only [ringRd]; rw [kindOf_csem]
/-- And what they hand over. -/
theorem payload_cell : (ringRd (F := F) m ρ).payload (cell k c) r d = payK m ρ c k r d := by
  dsimp only [ringRd]; rw [kindOf_csem]

/-- A cell whose round has one duty expects its amount, and hands over its payload. -/
theorem expect_one (h : dutiesK k r = {false}) : (ringRd (F := F) m ρ).expect (cell k c) r = amountK k := by
  unfold Schedule.expect Schedule.amountOf; rw [duties_cell, h, Finset.sum_singleton, amount_cell]
/-- What such a round hands over, in all. -/
theorem rest_one (h : dutiesK k r = {false}) :
    bigSep ((ringRd (F := F) m ρ).duties (cell k c) r \ ∅) (fun d => (ringRd (F := F) m ρ).payload (cell k c) r d) = payK m ρ c k r false := by
  rw [Finset.sdiff_empty, duties_cell, h, bigSep_singleton, payload_cell]
/-- The handshake expects two units. -/
theorem expect_bar : (ringRd (F := F) m ρ).expect (cell .bar c) 0 = 2 := by
  unfold Schedule.expect Schedule.amountOf
  rw [duties_cell, Finset.sum_congr rfl fun d _ => amount_cell m ρ .bar c 0 d]; rfl
/-- It hands over what both neighbours give. -/
theorem rest_bar :
    bigSep ((ringRd (F := F) m ρ).duties (cell .bar c) 0 \ ∅) (fun d => (ringRd (F := F) m ρ).payload (cell .bar c) 0 d)
      = iprop(payK m ρ c .bar 0 true ∗ payK m ρ c .bar 0 false) := by
  rw [Finset.sdiff_empty, duties_cell, duties_bar, bigSep_univ_eq_bigSepL [true, false] (by decide) (by decide),
    bigSepL_cons_cons, bigSepL_singleton, payload_cell, payload_cell]; rfl

/-- The rounds of a hop: the sending slot's, the receiving slot's, the credit's. -/
theorem duties_snd {dir : Bool} {h : ℕ} (hh : h < 31) : dutiesK (.snd dir (sl h)) (h / 2) = {false} := by
  dsimp only [dutiesK, sl]; rw [if_pos (by omega)]
theorem duties_rcv {dir : Bool} {h : ℕ} (hh : h < 31) : dutiesK (.rcv dir (sl (h + 1))) (h / 2) = {false} := by
  dsimp only [dutiesK, sl]; rw [if_pos (by omega)]
theorem duties_crd {dir : Bool} {h : ℕ} (hh : h < 30) : dutiesK (.crd dir) h = {false} := if_pos hh
/-- What each kind of round hands over, hop by hop: the handshake; -/
theorem pay_bar : payK m ρ c .bar 0 d = iprop(slotAny (F := F) d 1 (fwd d c) ∗ reached ER (cell (.rcv d 1) (fwd d c)) 0) := rfl
/-- the credit; -/
theorem pay_crd (dir : Bool) (h : ℕ) : payK m ρ c (.crd dir) h d
    = iprop(slotAny (F := F) dir (sl h) (fwd dir c) ∗ reached ER (cell (.rcv dir (sl h)) (fwd dir c)) ((h + 1) / 2)) := rfl
/-- the completed send, in the slot of its hop; -/
theorem pay_snd (dir : Bool) (h : ℕ) : payK m ρ c (.snd dir (sl h)) (h / 2) false = slotPts dir (sl h) c (acc m ρ dir h c) := by
  dsimp only [payK]; rw [show 2 * (h / 2) + (sl h).val = h by dsimp only [sl]; omega]
/-- the received partial sum, in the slot of the next. -/
theorem pay_rcv (dir : Bool) (h : ℕ) : payK m ρ c (.rcv dir (sl (h + 1))) (h / 2) false
    = iprop(slotPts dir (sl (h + 1)) c (acc m ρ dir h (bwd dir c)) ∗ reached ER (cell (.crd dir) (bwd dir c)) h) := by
  dsimp only [payK]; rw [show 2 * (h / 2) + (1 - (sl (h + 1)).val) = h by dsimp only [sl]; omega]

/-- After hop 30 the rounds have no duty. -/
theorem later_cell (R : ℕ) (hR : ∀ r, R ≤ r → dutiesK k r = ∅) : ∀ r, R ≤ r → (ringRd (F := F) m ρ).duties (cell k c) r = ∅ :=
  fun r hr => (duties_cell m ρ k c r).trans (hR r hr)

end Sched

/-! ## What a device owes, and the levels -/

/-- The receivers' units a device still owes before hop `a` of a direction, and the credits before hop `b`. -/
def rdue (n : Dev nD) (dir : Bool) (a : ℕ) : CellTallies nD τ sig ℕ := ∑ h ∈ Finset.Ico a 31, tallyAt (cell (.rcv dir (sl (h + 1))) n) h N
def cdue (n : Dev nD) (dir : Bool) (b : ℕ) : CellTallies nD τ sig ℕ := ∑ h ∈ Finset.Ico b 30, tallyAt (cell (.crd dir) n) h 1
/-- What a device owes: transfers to the next device, credits to the last, both ways round. -/
def due (c : Dev nD) (a₁ a₂ b₁ b₂ : ℕ) : CellTallies nD τ sig ℕ :=
  (rdue (fwd true c) true a₁ + rdue (fwd false c) false a₂) + (cdue (bwd true c) true b₁ + cdue (bwd false c) false b₂)
/-- At launch: the two units of the handshake also. -/
def O₁ (c : Dev nD) : CellTallies nD τ sig ℕ := due c 0 0 0 0 + tallyAt (cell .bar (fwd true c)) 0 1
def O₀ (c : Dev nD) : CellTallies nD τ sig ℕ := O₁ c + tallyAt (cell .bar (fwd false c)) 0 1

/-- A hop pays the first of the transfers owed. -/
theorem rdue_step (n : Dev nD) (dir : Bool) {a : ℕ} (h : a < 31) :
    rdue n dir a = rdue n dir (a + 1) + tallyAt (cell (.rcv dir (sl (a + 1))) n) a N := by
  unfold rdue; rw [Finset.sum_eq_sum_Ico_succ_bot h, add_comm]
/-- And the first of the credits. -/
theorem cdue_step (n : Dev nD) (dir : Bool) {b : ℕ} (h : b < 30) :
    cdue n dir b = cdue n dir (b + 1) + tallyAt (cell (.crd dir) n) b 1 := by
  unfold cdue; rw [Finset.sum_eq_sum_Ico_succ_bot h, add_comm]
/-- The same, of everything that a device owes, for each of the four kinds. -/
theorem due_rcv_true (c : Dev nD) {a₁ a₂ b₁ b₂ : ℕ} (h : a₁ < 31) :
    due c a₁ a₂ b₁ b₂ = due c (a₁ + 1) a₂ b₁ b₂ + tallyAt (cell (.rcv true (sl (a₁ + 1))) (fwd true c)) a₁ N := by
  unfold due; rw [rdue_step _ _ h]; ac_rfl
theorem due_rcv_false (c : Dev nD) {a₁ a₂ b₁ b₂ : ℕ} (h : a₂ < 31) :
    due c a₁ a₂ b₁ b₂ = due c a₁ (a₂ + 1) b₁ b₂ + tallyAt (cell (.rcv false (sl (a₂ + 1))) (fwd false c)) a₂ N := by
  unfold due; rw [rdue_step _ _ h]; ac_rfl
theorem due_crd_true (c : Dev nD) {a₁ a₂ b₁ b₂ : ℕ} (h : b₁ < 30) :
    due c a₁ a₂ b₁ b₂ = due c a₁ a₂ (b₁ + 1) b₂ + tallyAt (cell (.crd true) (bwd true c)) b₁ 1 := by
  unfold due; rw [cdue_step _ _ h]; ac_rfl
theorem due_crd_false (c : Dev nD) {a₁ a₂ b₁ b₂ : ℕ} (h : b₂ < 30) :
    due c a₁ a₂ b₁ b₂ = due c a₁ a₂ b₁ (b₂ + 1) + tallyAt (cell (.crd false) (bwd false c)) b₂ 1 := by
  unfold due; rw [cdue_step _ _ h]; ac_rfl
/-- After the last hop nothing is owed. -/
theorem due_end (c : Dev nD) : due c 31 31 30 30 = 0 := by
  unfold due rdue cdue; simp

/-- The levels in use: one per hop, on the cores that run the kernel. -/
def L (g : GSem nD τ sig) : Finset ℕ := if g.1.2 = .tc then Finset.range 31 else ∅
/-- The level of a payment of a kind at a hop. -/
def lvK : CK → ℕ → ℕ
  | .bar, _ => 1 | .snd _ _, _ => 0 | .rcv _ _, u => 2 * u + 2 | .crd _, u => 2 * u + 3
/-- Staging and senders at 0, the handshake at 1, then the receivers and the credits hop by hop. -/
def lv (g : GSem nD τ sig) (u : ℕ) : ℕ := match kindOf g.2 with | some k => lvK k u | none => 0

/-- Other cores have none. -/
theorem L_of_ne (g : GSem nD τ sig) (h : g.1.2 ≠ .tc) : L g = ∅ := if_neg h
/-- These have one per hop. -/
theorem L_tc (c : Dev nD) (sm : SemLoc sig) : L ((c : Thread nD τ), sm) = Finset.range 31 := if_pos rfl
/-- A cell's level is its kind's. -/
theorem lv_cell (k : CK) (c : Dev nD) (u : ℕ) : lv (cell k c) u = lvK k u := by dsimp only [lv]; rw [kindOf_csem]

/-- Everything owed is at a level above `b`. -/
def Above (b : ℕ) (O : CellTallies nD τ sig ℕ) : Prop := ∀ g u, 0 < O g u → u ∈ L g ∧ b < lv g u

/-- Owing nothing is above every level; -/
theorem above_zero (b : ℕ) : Above b 0 := fun g u h => absurd h (Nat.lt_irrefl 0)
/-- owing two things, if both are; -/
theorem above_add {b : ℕ} {O O' : CellTallies nD τ sig ℕ} (h : Above b O) (h' : Above b O') : Above b (O + O') := fun g u hp => by
  rw [Pi.add_apply, Finsupp.add_apply] at hp
  rcases Nat.eq_zero_or_pos (O g u) with h0 | h0
  · exact h' g u (by omega)
  · exact h g u h0
/-- owing many, if all are; -/
theorem above_sum {b : ℕ} {s : Finset ℕ} {f : ℕ → CellTallies nD τ sig ℕ} (h : ∀ i ∈ s, Above b (f i)) : Above b (∑ i ∈ s, f i) :=
  Finset.sum_induction f (Above b) (fun _ _ => above_add) (above_zero b) h
/-- owing one payment, if its level is; -/
theorem above_tally {b : ℕ} {k : CK} {c : Dev nD} {u n : ℕ} (hu : u < 31) (hb : b < lvK k u) : Above b (tallyAt (cell k c) u n) := fun g u' hp => by
  rw [tallyAt_apply] at hp
  by_cases h : g = cell k c ∧ u' = u
  · rw [h.1, h.2, lv_cell, L_tc]; exact ⟨Finset.mem_range.mpr hu, hb⟩
  · rw [if_neg h] at hp; exact absurd hp (Nat.lt_irrefl 0)
/-- owing the transfers from a hop on; -/
theorem above_rdue {b a : ℕ} (n : Dev nD) (dir : Bool) (h : b < 2 * a + 2) : Above b (rdue n dir a) :=
  above_sum fun i hi => by have := Finset.mem_Ico.mp hi; exact above_tally (by omega) (by dsimp only [lvK]; omega)
/-- owing the credits from a hop on; -/
theorem above_cdue {b a : ℕ} (n : Dev nD) (dir : Bool) (h : b < 2 * a + 3) : Above b (cdue n dir a) :=
  above_sum fun i hi => by have := Finset.mem_Ico.mp hi; exact above_tally (by omega) (by dsimp only [lvK]; omega)
/-- owing all that a device owes at a hop. -/
theorem above_due {b a₁ a₂ b₁ b₂ : ℕ} (c : Dev nD) (h₁ : b < 2 * a₁ + 2) (h₂ : b < 2 * a₂ + 2) (h₃ : b < 2 * b₁ + 3) (h₄ : b < 2 * b₂ + 3) :
    Above b (due c a₁ a₂ b₁ b₂) :=
  above_add (above_add (above_rdue _ _ h₁) (above_rdue _ _ h₂)) (above_add (above_cdue _ _ h₃) (above_cdue _ _ h₄))
/-- What is owed at the start is above level 0. -/
theorem above_O₀ (c : Dev nD) : Above 0 (O₀ c) :=
  above_add (above_add (above_due c (by omega) (by omega) (by omega) (by omega)) (above_tally (by decide) (by decide)))
    (above_tally (by decide) (by decide))

omit [FloatOps F] in
/-- A device may wait at a level below everything it owes. -/
theorem mayWait {O : CellTallies nD τ sig ℕ} (c : Dev nD) (sm : SemLoc sig) (u : ℕ) (hu : u < 31)
    (h : Above (lv ((c : Thread nD τ), sm) u) O) : (levAts L lv : sProp 𝕄) ⊢ MayWait (c : Thread nD τ) sm u O :=
  MayOwe.of_cut (L := L) (lev := lv) (lv ((c : Thread nD τ), sm) u)
    (fun p hp => by rw [Finset.mem_singleton.mp hp, L_tc]; exact Finset.mem_range.mpr hu) (fun g u hg => (h g u hg).1)
    (fun p hp => by rw [Finset.mem_singleton.mp hp]) (fun g u hg => (h g u hg).2)

end Cert.Proof

end
-- ==== Proof.Step.lean ====
/-
  One rule for each step of a hop, in either direction and at any hop: what a device needs for it and what it has
  after it.
-/
module

public import proofs.«01_k».proof.Proof.Common

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- The body has no loop that needs a measure. -/
abbrev 𝒱₀ : Variants := Variants.none
/-- A program run on device `c`. -/
abbrev WP (c : Dev nD) (p : PP F) (Q : PUnit → sProp 𝕄) : sProp 𝕄 := wp frame (wpE (defs₀ (F := F)) 𝒱₀ (c : Thread nD τ) none) Set.univ p Q

variable (m : (ℓ : Loc nD τ sig) → Buf (Elt F) ℓ) (ρ : Dev nD → PrngReg) (K : Dev nD × CK → ℕ)

/-! ## What all devices share -/

/-- The records all devices share: every invariant, and that every cell is at least at round 0. -/
def records : sProp 𝕄 :=
  iprop((bigSep Finset.univ fun x : Dev nD × CK => cellInv ER (ringRd m ρ) (K x) (cell x.2 x.1))
    ∗ bigSep Finset.univ fun x : Dev nD × CK => reached ER (cell x.2 x.1) 0)
/-- Every cell's invariant, every cell at round 0, and the levels. -/
def ctx : sProp 𝕄 := iprop(records m ρ K ∗ levAts L lv)
/-- They may be used as often as needed. -/
instance records_persistent : BI.Persistent (records m ρ K) := by unfold records; infer_instance
instance ctx_persistent : BI.Persistent (ctx m ρ K) := by unfold ctx; infer_instance

/-- One of the invariants, and one of the rounds, taken out. -/
theorem inv_at (x : Dev nD × CK) :
    (bigSep Finset.univ fun x : Dev nD × CK => (cellInv ER (ringRd m ρ) (K x) (cell x.2 x.1) : sProp 𝕄)) ⊢ cellInv ER (ringRd m ρ) (K x) (cell x.2 x.1) :=
  bigSep_elim (Finset.mem_univ x)
theorem reached_at (x : Dev nD × CK) :
    (bigSep Finset.univ fun x : Dev nD × CK => (reached ER (cell x.2 x.1) 0 : sProp 𝕄)) ⊢ reached ER (cell x.2 x.1) 0 :=
  bigSep_elim (Finset.mem_univ x)
/-- The invariant of a cell. -/
theorem ctx_inv (k : CK) (c : Dev nD) : ctx m ρ K ⊢ cellInv ER (ringRd m ρ) (K (c, k)) (cell k c) := by
  unfold ctx records
  iintro ⟨⟨H, -⟩, -⟩
  iapply (inv_at m ρ K (c, k)); iexact H
/-- That a cell is at least at round 0. -/
theorem ctx_reached (k : CK) (c : Dev nD) : ctx m ρ K ⊢ reached ER (cell k c) 0 := by
  unfold ctx records
  iintro ⟨⟨-, H⟩, -⟩
  iapply (reached_at (F := F) (c, k)); iexact H

/-- A device is at a round of its own cell, and the round is reached. -/
def pos (k : CK) (c : Dev nD) (r : ℕ) : sProp 𝕄 := iprop(atPos ER (cell k c) r ∅ 0 ∗ reached ER (cell k c) r)
/-- What a device owes, whatever it has waited for. -/
def oweE (c : Dev nD) (O : CellTallies nD τ sig ℕ) : sProp 𝕄 := iprop(∃ W : Waits sig ℕ, owes (c : Thread nD τ) O W)
/-- A device's staged operands and scales. -/
def xPts (c : Dev nD) : sProp 𝕄 := ((c : Thread nD τ).loc cc0_stg0_0) ↦{fullShare} xstg m ρ c
def wPts (c : Dev nD) : sProp 𝕄 := ((c : Thread nD τ).loc cc0_stg1_0) ↦{fullShare} wstg m ρ c
def pPts (c : Dev nD) : sProp 𝕄 := ((c : Thread nD τ).loc cc0_stg2_0) ↦{fullShare} pstg m ρ c
def qPts (c : Dev nD) : sProp 𝕄 := ((c : Thread nD τ).loc cc0_stg3_0) ↦{fullShare} qstg m ρ c

variable {m ρ K}
variable {Q : PUnit.{1} → sProp (MT nD τ sig ℕ (Elt F) ℕ UU ℕ)}

/-! ## Waits -/

/-- A wait on a device's own cell at a round of one duty. -/
theorem step_wait (k : CK) (c : Dev nD) (r u : ℕ) (O : CellTallies nD τ sig ℕ) (hk : dutiesK k r = {false}) (hu : u < 31) (hO : Above (lvK k u) O)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (csem k) (amountK k) K')
    (p : PP F) :
    iprop(ctx m ρ K ∗ cred (tallyAt (cell k c) u (amountK k)) ∗ oweE (F := F) c O ∗ pos (F := F) k c r)
      ⊢ iprop((oweE c O ∗ pos k c (r + 1) ∗ payK m ρ c k r false -∗ WP c p Q) -∗ WP c (.op w fun _ => p) Q) := by
  unfold oweE pos
  iintro ⟨#Hx, Hc, ⟨%W, HO⟩, Hat, -⟩ Hk
  iapply (Rounds.wp_wait_rest_token 𝒱₀ ER (ringRd m ρ) (c : Thread nD τ) none (κ := K (c, k)) hw (Set.mem_univ _) u (O := O) (W := W) (R := r) (m := 0) (T := ∅)
    (by rw [Nat.zero_add, expect_one m ρ k c r hk])) $$ [Hc HO Hat]
  · isplitr; · iapply (ctx_inv m ρ K k c); iexact Hx
    isplitl [Hc]; · iexact Hc
    isplitl [HO]; · iexact HO
    isplitr
    · iapply (mayWait (F := F) c (csem k) u hu (by rw [lv_cell]; exact hO))
      unfold ctx; icases Hx with ⟨-, H⟩; iexact H
    iexact Hat
  iintro ⟨HO, Hat, #Hr, Hpay⟩
  ihave Hp := (Entails.of_eq (rest_one m ρ k c r hk)) $$ Hpay
  iapply Hk
  isplitl [HO]; · iexists _; iexact HO
  isplitl [Hat]
  · isplitl [Hat]; · iexact Hat
    iexact Hr
  iexact Hp

/-- After the wait for a send its slot is back, with what it held. -/
theorem step_waitSend (dir : Bool) (h : ℕ) (c : Dev nD) (O : CellTallies nD τ sig ℕ) (hh : h < 31) (hO : Above 0 O) (p : PP F) :
    iprop(ctx m ρ K ∗ cred (tallyAt (cell (.snd dir (sl h)) c) h N) ∗ oweE (F := F) c O ∗ pos (F := F) (.snd dir (sl h)) c (h / 2))
      ⊢ iprop((oweE c O ∗ pos (.snd dir (sl h)) c (h / 2 + 1) ∗ slotPts dir (sl h) c (acc m ρ dir h c) -∗ WP c p Q)
          -∗ WP c (kWaitSend dir h p) Q) := by
  rw [← pay_snd m ρ c dir h]
  exact step_wait (.snd dir (sl h)) c (h / 2) h O (duties_snd hh) hh hO (fun K' => (wpE_waitDma2_eq 𝒱₀ (c : Thread nD τ) none Set.univ K').trans (by rw [credit_eq]; rfl)) p

/-- After the wait for a receipt the next slot holds the neighbour's partial sum. -/
theorem step_waitRecv (dir : Bool) (h : ℕ) (c : Dev nD) (O : CellTallies nD τ sig ℕ) (hh : h < 31) (hO : Above (2 * h + 2) O) (p : PP F) :
    iprop(ctx m ρ K ∗ cred (tallyAt (cell (.rcv dir (sl (h + 1))) c) h N) ∗ oweE (F := F) c O ∗ pos (F := F) (.rcv dir (sl (h + 1))) c (h / 2))
      ⊢ iprop((oweE c O ∗ pos (.rcv dir (sl (h + 1))) c (h / 2 + 1)
            ∗ slotPts dir (sl (h + 1)) c (acc m ρ dir h (bwd dir c)) ∗ reached ER (cell (.crd dir) (bwd dir c)) h -∗ WP c p Q)
          -∗ WP c (kWaitRecv dir h p) Q) := by
  rw [← pay_rcv m ρ c dir h]
  exact step_wait (.rcv dir (sl (h + 1))) c (h / 2) h O (duties_rcv hh) hh hO (fun K' => (wpE_waitDma2_eq 𝒱₀ (c : Thread nD τ) none Set.univ K').trans (by rw [credit_eq]; rfl)) p

/-- After the wait for a credit the neighbour's slot may be overwritten. -/
theorem step_credWait (dir : Bool) (h : ℕ) (c : Dev nD) (O : CellTallies nD τ sig ℕ) (hh : h < 30) (hO : Above (2 * h + 3) O) (p : PP F) :
    iprop(ctx m ρ K ∗ cred (tallyAt (cell (.crd dir) c) h 1) ∗ oweE (F := F) c O ∗ pos (F := F) (.crd dir) c h)
      ⊢ iprop((oweE c O ∗ pos (.crd dir) c (h + 1)
            ∗ slotAny dir (sl h) (fwd dir c) ∗ reached ER (cell (.rcv dir (sl h)) (fwd dir c)) ((h + 1) / 2) -∗ WP c p Q)
          -∗ WP c (kCredWait dir p) Q) :=
  step_wait (.crd dir) c h h O (duties_crd hh) (by omega) hO (fun K' => rfl) p

/-! ## Signals -/

/-- A signal is of one unit. -/
theorem kSignal_eq (n : Dev nD) (s : Sem sig) (p : PP F) : kSignal n s p = .op (.semSignal (n : Thread nD τ) s ((1 : ℕ) : ℤ)) fun _ => p := rfl

/-- A unit to a neighbour's handshake: with it the slot the neighbour will send into. -/
theorem step_bar (dir : Bool) (c : Dev nD) (O : CellTallies nD τ sig ℕ) (p : PP F) :
    iprop(ctx m ρ K ∗ oweE (F := F) c (O + tallyAt (cell .bar (bwd dir c)) 0 1) ∗ dutyTok ER (cell .bar (bwd dir c)) 0 dir ∗ slotAny (F := F) dir 1 c)
      ⊢ iprop((oweE c O -∗ WP c p Q) -∗ WP c (kSignal (bwd dir c) barS p) Q) := by
  unfold oweE
  iintro ⟨#Hx, ⟨%W, HO⟩, Ht, Hs⟩ Hk
  rw [kSignal_eq]
  iapply (Rounds.wp_signal 𝒱₀ ER (ringRd m ρ) (c : Thread nD τ) none (dst := (bwd dir c : Thread nD τ)) (κ := K (bwd dir c, .bar))
      (r := 0) (d := dir) (by rw [show ((bwd dir c : Thread nD τ), SemLoc.reg barS) = cell .bar (bwd dir c) from rfl, duties_cell, duties_bar]; exact Finset.mem_univ _)
      (amount_cell m ρ .bar (bwd dir c) 0 dir) 0 O rfl) $$ [HO Ht Hs]
  · isplitr; · iapply (ctx_inv m ρ K .bar (bwd dir c)); iexact Hx
    isplitl [HO]; · iexact HO
    isplitl [Ht]; · iexact Ht
    isplitl [Hs]
    · iapply (Entails.of_eq (show (ringRd m ρ).payload ((bwd dir c : Thread nD τ), SemLoc.reg barS) 0 dir = _ from payload_cell m ρ .bar (bwd dir c) 0 dir).symm)
      rw [pay_bar, fwd_bwd]
      isplitl [Hs]; · iexact Hs
      iapply (ctx_reached m ρ K (.rcv dir 1) c); iexact Hx
    · iapply (ctx_reached m ρ K .bar (bwd dir c)); iexact Hx
  iintro HO
  iapply Hk; iexists W; iexact HO

/-- A credit to the sender: with it the slot just forwarded. -/
theorem step_credit (dir : Bool) (h : ℕ) (hh : h < 30) (c : Dev nD) (O : CellTallies nD τ sig ℕ) (p : PP F) :
    iprop(ctx m ρ K ∗ oweE (F := F) c (O + tallyAt (cell (.crd dir) (bwd dir c)) h 1) ∗ dutyTok ER (cell (.crd dir) (bwd dir c)) h false
        ∗ reached ER (cell (.crd dir) (bwd dir c)) h ∗ slotAny (F := F) dir (sl h) c ∗ reached ER (cell (.rcv dir (sl h)) c) ((h + 1) / 2))
      ⊢ iprop((oweE c O -∗ WP c p Q) -∗ WP c (kSignal (bwd dir c) (credS dir) p) Q) := by
  unfold oweE
  iintro ⟨#Hx, ⟨%W, HO⟩, Ht, Hr, Hs, Hv⟩ Hk
  rw [kSignal_eq]
  iapply (Rounds.wp_signal 𝒱₀ ER (ringRd m ρ) (c : Thread nD τ) none (dst := (bwd dir c : Thread nD τ)) (κ := K (bwd dir c, .crd dir))
      (r := h) (d := false) (by rw [show ((bwd dir c : Thread nD τ), SemLoc.reg (credS dir)) = cell (.crd dir) (bwd dir c) from rfl, duties_cell, duties_crd hh]; exact Finset.mem_singleton_self _)
      (amount_cell m ρ (.crd dir) (bwd dir c) h false) h O rfl) $$ [HO Ht Hr Hs Hv]
  · isplitr; · iapply (ctx_inv m ρ K (.crd dir) (bwd dir c)); iexact Hx
    isplitl [HO]; · iexact HO
    isplitl [Ht]; · iexact Ht
    isplitl [Hs Hv]
    · iapply (Entails.of_eq (show (ringRd m ρ).payload ((bwd dir c : Thread nD τ), SemLoc.reg (credS dir)) h false = _ from payload_cell m ρ (.crd dir) (bwd dir c) h false).symm)
      rw [pay_crd, fwd_bwd]
      isplitl [Hs]; · iexact Hs
      iexact Hv
    · iexact Hr
  iintro HO
  iapply Hk; iexists W; iexact HO

/-- The wait for both neighbours. -/
theorem step_barWait (c : Dev nD) (O : CellTallies nD τ sig ℕ) (hO : Above 1 O) (p : PP F) :
    iprop(ctx m ρ K ∗ cred (tallyAt (cell .bar c) 0 2) ∗ oweE (F := F) c O ∗ pos (F := F) .bar c 0)
      ⊢ iprop((oweE c O ∗ pos .bar c 1 ∗ payK m ρ c .bar 0 true ∗ payK m ρ c .bar 0 false -∗ WP c p Q)
          -∗ WP c (.op (.semWait barS (2#32 : BitVec 32).toInt) fun _ => p) Q) := by
  unfold oweE pos
  iintro ⟨#Hx, Hc, ⟨%W, HO⟩, Hat, -⟩ Hk
  iapply (Rounds.wp_wait_rest_token 𝒱₀ ER (ringRd m ρ) (c : Thread nD τ) none (κ := K (c, .bar)) (k' := 2) (sm := .reg barS) (fun K' => rfl) (Set.mem_univ _) 0
    (O := O) (W := W) (R := 0) (m := 0) (T := ∅) (by rw [Nat.zero_add]; exact (expect_bar m ρ c).symm)) $$ [Hc HO Hat]
  · isplitr; · iapply (ctx_inv m ρ K .bar c); iexact Hx
    isplitl [Hc]; · iexact Hc
    isplitl [HO]; · iexact HO
    isplitr
    · iapply (mayWait (F := F) c (csem .bar) 0 (by decide) (by rw [lv_cell]; exact hO))
      unfold ctx; icases Hx with ⟨-, H⟩; iexact H
    iexact Hat
  iintro ⟨HO, Hat, #Hr, Hpay⟩
  ihave Hp := (Entails.of_eq (show bigSep ((ringRd (F := F) m ρ).duties ((c : Thread nD τ), SemLoc.reg barS) 0 \ ∅)
    (fun d => (ringRd (F := F) m ρ).payload ((c : Thread nD τ), SemLoc.reg barS) 0 d) = _ from rest_bar m ρ c)) $$ Hpay
  iapply Hk
  isplitl [HO]; · iexists _; iexact HO
  isplitl [Hat]
  · isplitl [Hat]; · iexact Hat
    iexact Hr
  iexact Hp

/-! ## Transfers -/

/-- A partial sum sent on: into the neighbour's slot, which the neighbour gets back with it. -/
theorem step_send (dir : Bool) (h : ℕ) (hh : h < 31) (c : Dev nD) (O : CellTallies nD τ sig ℕ) (p : PP F) :
    iprop(ctx m ρ K ∗ slotPts dir (sl h) c (acc m ρ dir h c) ∗ slotAny (F := F) dir (sl (h + 1)) (fwd dir c)
        ∗ reached ER (cell (.rcv dir (sl (h + 1))) (fwd dir c)) (h / 2) ∗ reached ER (cell (.crd dir) c) h
        ∗ reached ER (cell (.snd dir (sl h)) c) (h / 2)
        ∗ dutyTok ER (cell (.snd dir (sl h)) c) (h / 2) false ∗ dutyTok ER (cell (.rcv dir (sl (h + 1))) (fwd dir c)) (h / 2) false
        ∗ oweE (F := F) c (O + tallyAt (cell (.rcv dir (sl (h + 1))) (fwd dir c)) h N))
      ⊢ iprop((cred (tallyAt (cell (.snd dir (sl h)) c) h N) ∗ oweE c O -∗ WP c p Q) -∗ WP c (kSend dir (fwd dir c) h p) Q) := by
  unfold oweE slotAny
  iintro ⟨#Hx, Hs, ⟨%v, Hd⟩, #Hr2, #Hrc, #Hr1, Ht1, Ht2, ⟨%W, HO⟩⟩ Hk
  unfold slotPts
  icases Hs with ⟨%fs, %hfs, Hs⟩
  icases Hd with ⟨%fd, %hfd, Hd⟩
  unfold kSend
  iapply (Rounds.wp_send_pointsTo_with 𝒱₀ ER (ringRd m ρ) (c : Thread nD τ) none (κ₁ := K (c, .snd dir (sl h))) (κ₂ := K (fwd dir c, .rcv dir (sl (h + 1))))
    (c' := (fwd dir c : Thread nD τ)) (src := slotM dir (sl h)) (dst := slotM dir (sl (h + 1)))
    (sS := csem (.snd dir (sl h))) (sem := csem (.rcv dir (sl (h + 1)))) (q := fullShare) (fs := fs) (fd := fd)
    (F := reached ER (cell (.crd dir) c) h)
    (r₁ := h / 2) (r₂ := h / 2) (d₁ := false) (d₂ := false)
    (by rw [duties_cell, duties_snd hh]; exact Finset.mem_singleton_self _)
    (by rw [duties_cell m ρ (.rcv dir (sl (h + 1))) (fwd dir c), duties_rcv hh]; exact Finset.mem_singleton_self _)
    h h N (credit_eq dir (sl (h + 1))) (amount_cell m ρ (.snd dir (sl h)) c (h / 2) false) (amount_cell m ρ (.rcv dir (sl (h + 1))) (fwd dir c) (h / 2) false) O rfl (W := W)
    (by
      rw [payload_cell m ρ (.snd dir (sl h)) c, pay_snd]; unfold slotPts
      iintro H; iexists fs; isplitr; · ipureintro; exact hfs
      iexact H)
    (by
      rw [payload_cell m ρ (.rcv dir (sl (h + 1))) (fwd dir c), pay_rcv, bwd_fwd]; unfold slotPts
      iintro ⟨H, #Hr⟩
      isplitl [H]
      · iexists ((slotM dir (sl (h + 1))).view.write (Elt F) fd ((slotM dir (sl h)).view.read (Elt F) fs) Finset.univ); isplitr
        · ipureintro; exact (View.read_write_univ _ _).trans hfs
        iexact H
      iexact Hr)) $$ [Hs Hd Ht1 Ht2 HO]
  · isplitr; · iapply (ctx_inv m ρ K (.snd dir (sl h)) c); iexact Hx
    isplitr; · iapply (ctx_inv m ρ K (.rcv dir (sl (h + 1))) (fwd dir c)); iexact Hx
    isplitl [Hs]; · iexact Hs
    isplitl [Hd]
    · isplitl [Hd]; · iexact Hd
      iexact Hrc
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## Loads, products, stores -/

/-- A slot held, as a load or a store of it names it. -/
theorem slotPts_eq (dir : Bool) (s : Fin 2) (c : Dev nD) (v : Vec F S128x4096 .f32) :
    slotPts dir s c v = iprop(∃ f : Buf (Elt F) (((comm dir).access (slotR s)).loc (c : Thread nD τ)),
      ⌜shapeCast S128x4096 (((comm dir).access (slotR s)).read (Elt F) f) shapeCasts_S1x128x4096_S128x4096 = v⌝
      ∗ (((comm dir).access (slotR s)).loc (c : Thread nD τ) ↦[((comm dir).access (slotR s)).set]{fullShare} f) : sProp 𝕄) := by
  unfold slotPts; rw [slot_set]; rfl

/-- The first block: a device's own product. -/
theorem step_init (dir : Bool) (o : Rows) (c : Dev nD) (p : PP F) :
    iprop(slotAny (F := F) dir (sl 0) c ∗ xPts m ρ c ∗ wPts m ρ c)
      ⊢ iprop((slotPts dir (sl 0) c (prod m ρ c dir o) ∗ xPts m ρ c ∗ wPts m ρ c -∗ WP c p Q) -∗ WP c (kInit dir o p) Q) := by
  unfold slotAny xPts wPts kInit; simp only [slotPts_eq]
  iintro ⟨⟨%v, %f, %hf, Hs⟩, Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := comm dir) (r := slotR (sl 0)) (Finset.Subset.refl _)) $$ Hs; iintro Hs
  iapply (wp_store 𝒱₀ (c : Thread nD τ) none Set.univ (m := comm dir) (r := slotR (sl 0)) (Mk := Finset.univ) (S := ((comm dir).access (slotR (sl 0))).set) (Finset.Subset.refl _)) $$ Hs; iintro Hs
  iapply Hk
  isplitl [Hs]
  · iexists _; isplitr
    · ipureintro; exact slot_store dir (sl 0) f (prod m ρ c dir o)
    iexact Hs
  isplitl [Hx]; · iexact Hx
  iexact Hw

/-- A received partial sum, the device's own product added. -/
theorem step_add (dir : Bool) (h : ℕ) (o : Rows) (c : Dev nD) (v : Vec F S128x4096 .f32) (p : PP F) :
    iprop(slotPts dir (sl (h + 1)) c v ∗ xPts m ρ c ∗ wPts m ρ c)
      ⊢ iprop((slotPts dir (sl (h + 1)) c (addf v (prod m ρ c dir o)) ∗ xPts m ρ c ∗ wPts m ρ c -∗ WP c p Q) -∗ WP c (kAdd dir h o p) Q) := by
  unfold xPts wPts kAdd; simp only [slotPts_eq]
  iintro ⟨⟨%f, %hf, Hs⟩, Hx, Hw⟩ Hk
  iapply (wp_load_rect 𝒱₀ (c : Thread nD τ) none Set.univ (m := comm dir) (r := slotR (sl (h + 1))) (Finset.Subset.refl _)) $$ Hs; iintro Hs
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load_rect 𝒱₀ (c : Thread nD τ) none Set.univ (m := comm dir) (r := slotR (sl (h + 1))) (Finset.Subset.refl _)) $$ Hs; iintro Hs
  iapply (wp_store 𝒱₀ (c : Thread nD τ) none Set.univ (m := comm dir) (r := slotR (sl (h + 1))) (Mk := Finset.univ) (S := ((comm dir).access (slotR (sl (h + 1)))).set) (Finset.Subset.refl _)) $$ Hs; iintro Hs
  iapply Hk
  isplitl [Hs]
  · iexists _; isplitr
    · ipureintro
      subst hf
      exact slot_store dir (sl (h + 1)) f (addf _ (prod m ρ c dir o))
    iexact Hs
  isplitl [Hx]; · iexact Hx
  iexact Hw

end Cert.Proof

end
-- ==== Proof.Body.lean ====
/-
  The body of the kernel on one device: a hop's transfers and its additions once, both ways; the hops by induction;
  the handshake before them and the last hop after them.
-/
module

public import proofs.«01_k».proof.Proof.Step

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## What a device holds between the steps of a hop -/

/-- Before the transfers of hop `h`: the partial sum to send, the neighbour's slot to send it into, and where the
    device is at its own cells of the direction. -/
def hopSt (dir : Bool) (h : ℕ) (c : Dev nD) : sProp 𝕄 :=
  iprop(slotPts dir (sl h) c (acc m ρ dir h c) ∗ slotAny dir (sl (h + 1)) (fwd dir c)
    ∗ reached ER (cell (.rcv dir (sl (h + 1))) (fwd dir c)) (h / 2)
    ∗ pos (.snd dir (sl h)) c (h / 2) ∗ pos (.snd dir (sl (h + 1))) c ((h + 1) / 2)
    ∗ pos (.rcv dir (sl (h + 1))) c (h / 2) ∗ pos (.rcv dir (sl h)) c ((h + 1) / 2) ∗ pos (.crd dir) c h)
/-- Where the device is at its own cells after the transfers of hop `h`. -/
def posSt (dir : Bool) (h : ℕ) (c : Dev nD) : sProp 𝕄 :=
  iprop(pos (.snd dir (sl h)) c (h / 2 + 1) ∗ pos (.snd dir (sl (h + 1))) c ((h + 1) / 2)
    ∗ pos (.rcv dir (sl (h + 1))) c (h / 2 + 1) ∗ pos (.rcv dir (sl h)) c ((h + 1) / 2) ∗ pos (.crd dir) c h)
/-- After them: both slots, the one received at the partial sum of the device before. -/
def midSt (dir : Bool) (h : ℕ) (c : Dev nD) : sProp 𝕄 :=
  iprop(slotPts dir (sl h) c (acc m ρ dir h c) ∗ slotPts dir (sl (h + 1)) c (acc m ρ dir h (bwd dir c))
    ∗ reached ER (cell (.crd dir) (bwd dir c)) h ∗ posSt dir h c)
/-- After the hop: the slot received, the device's own product added; the other slot is the sender's again. -/
def accSt (dir : Bool) (h : ℕ) (c : Dev nD) : sProp 𝕄 :=
  iprop(slotPts dir (sl (h + 1)) c (acc m ρ dir (h + 1) c) ∗ posSt dir h c)

/-- What a hop's transfers use up. -/
def tokM (c : Dev nD) (dir : Bool) (h : ℕ) : sProp 𝕄 :=
  iprop(dutyTok ER (cell (.snd dir (sl h)) c) (h / 2) false ∗ dutyTok ER (cell (.rcv dir (sl (h + 1))) (fwd dir c)) (h / 2) false
    ∗ cred (tallyAt (cell (.rcv dir (sl (h + 1))) c) h N))
/-- What a credit given, and a credit taken, use up. -/
def tokG (c : Dev nD) (dir : Bool) (h : ℕ) : sProp 𝕄 := dutyTok ER (cell (.crd dir) (bwd dir c)) h false
def tokT (c : Dev nD) (dir : Bool) (h : ℕ) : sProp 𝕄 := cred (tallyAt (cell (.crd dir) c) h 1)
/-- What a direction's hops from `a` on use up, the credits given from `b` and taken from `t` on. -/
def stock (c : Dev nD) (dir : Bool) (a b t : ℕ) : sProp 𝕄 :=
  iprop(bigSep (Finset.Ico a 31) (tokM (F := F) c dir) ∗ bigSep (Finset.Ico b 30) (tokG (F := F) c dir) ∗ bigSep (Finset.Ico t 30) (tokT (F := F) c dir))

omit [FloatOps F] in
/-- The first of a range of hops taken out. -/
theorem ico_step (Φ : ℕ → sProp 𝕄) {a b : ℕ} (h : a < b) : bigSep (Finset.Ico a b) Φ ⊢ iprop(Φ a ∗ bigSep (Finset.Ico (a + 1) b) Φ) := by
  rw [← Finset.insert_Ico_add_one_left_eq_Ico h, BI.bigSep_insert (by simp)]
  exact BI.Entails.refl _

/-- The staged operands. -/
def args (c : Dev nD) : sProp 𝕄 := iprop(xPts m ρ c ∗ wPts m ρ c)

variable {m ρ K}
variable {Q : PUnit.{1} → sProp (MT nD τ sig ℕ (Elt F) ℕ UU ℕ)}

/-! ## A hop -/

/-- A direction's transfer started. -/
theorem hop_send (dir : Bool) (h : ℕ) (hh : h < 31) (c : Dev nD) (O : CellTallies nD τ sig ℕ) (p : PP F) :
    iprop(ctx m ρ K ∗ hopSt m ρ dir h c ∗ tokM (F := F) c dir h ∗ oweE (F := F) c (O + tallyAt (cell (.rcv dir (sl (h + 1))) (fwd dir c)) h N))
      ⊢ iprop((cred (tallyAt (cell (.snd dir (sl h)) c) h N) ∗ cred (tallyAt (cell (.rcv dir (sl (h + 1))) c) h N)
            ∗ (pos (.snd dir (sl h)) c (h / 2) ∗ pos (.snd dir (sl (h + 1))) c ((h + 1) / 2)
              ∗ pos (.rcv dir (sl (h + 1))) c (h / 2) ∗ pos (.rcv dir (sl h)) c ((h + 1) / 2) ∗ pos (.crd dir) c h)
            ∗ oweE c O -∗ WP c p Q) -∗ WP c (kSend dir (fwd dir c) h p) Q) := by
  unfold hopSt tokM pos
  iintro ⟨#Hx, ⟨Hs, Hd, Hr, ⟨Ha, #Hra⟩, Hb, Hc, He, ⟨Hg, #Hrg⟩⟩, ⟨Ht1, Ht2, Hcv⟩, HO⟩ Hk
  iapply (step_send dir h hh c O p) $$ [Hs Hd Hr Ht1 Ht2 HO]
  · isplitr; · iexact Hx
    isplitl [Hs]; · iexact Hs
    isplitl [Hd]; · iexact Hd
    isplitl [Hr]; · iexact Hr
    isplitr; · iexact Hrg
    isplitr; · iexact Hra
    isplitl [Ht1]; · iexact Ht1
    isplitl [Ht2]; · iexact Ht2
    iexact HO
  iintro ⟨Hcs, HO⟩
  iapply Hk
  isplitl [Hcs]; · iexact Hcs
  isplitl [Hcv]; · iexact Hcv
  isplitr [HO]
  · isplitl [Ha]; · isplitl [Ha]; · iexact Ha
                    iexact Hra
    isplitl [Hb]; · iexact Hb
    isplitl [Hc]; · iexact Hc
    isplitl [He]; · iexact He
    isplitl [Hg]; · iexact Hg
    iexact Hrg
  iexact HO

/-- A direction's transfers completed: its own send, and the one it receives. -/
theorem hop_wait (dir : Bool) (h : ℕ) (hh : h < 31) (c : Dev nD) (O : CellTallies nD τ sig ℕ) (hO : Above (2 * h + 2) O) (p : PP F) :
    iprop(ctx m ρ K ∗ cred (tallyAt (cell (.snd dir (sl h)) c) h N) ∗ cred (tallyAt (cell (.rcv dir (sl (h + 1))) c) h N)
        ∗ (pos (F := F) (.snd dir (sl h)) c (h / 2) ∗ pos (F := F) (.snd dir (sl (h + 1))) c ((h + 1) / 2)
              ∗ pos (F := F) (.rcv dir (sl (h + 1))) c (h / 2) ∗ pos (F := F) (.rcv dir (sl h)) c ((h + 1) / 2) ∗ pos (F := F) (.crd dir) c h)
        ∗ oweE (F := F) c O)
      ⊢ iprop((midSt m ρ dir h c ∗ oweE c O -∗ WP c p Q) -∗ WP c (kWaitSend dir h (kWaitRecv dir h p)) Q) := by
  unfold midSt posSt
  iintro ⟨#Hx, Hcs, Hcv, ⟨Ha, Hb, Hc, He, Hg⟩, HO⟩ Hk
  iapply (step_waitSend dir h c O hh (fun g u hg => ⟨(hO g u hg).1, by have := (hO g u hg).2; omega⟩) (kWaitRecv dir h p)) $$ [Hcs HO Ha]
  · isplitr; · iexact Hx
    isplitl [Hcs]; · iexact Hcs
    isplitl [HO]; · iexact HO
    iexact Ha
  iintro ⟨HO, Ha, Hs⟩
  iapply (step_waitRecv dir h c O hh hO p) $$ [Hcv HO Hc]
  · isplitr; · iexact Hx
    isplitl [Hcv]; · iexact Hcv
    isplitl [HO]; · iexact HO
    iexact Hc
  iintro ⟨HO, Hc, Hv, Hr⟩
  iapply Hk
  isplitr [HO]
  · isplitl [Hs]; · iexact Hs
    isplitl [Hv]; · iexact Hv
    isplitl [Hr]; · iexact Hr
    isplitl [Ha]; · iexact Ha
    isplitl [Hb]; · iexact Hb
    isplitl [Hc]; · iexact Hc
    isplitl [He]; · iexact He
    iexact Hg
  iexact HO

/-- A hop's transfers, both ways. -/
theorem hop_move (h : ℕ) (hh : h < 31) (c : Dev nD) (p : PP F) :
    iprop(ctx m ρ K ∗ (hopSt m ρ true h c ∗ hopSt m ρ false h c) ∗ (tokM (F := F) c true h ∗ tokM (F := F) c false h) ∗ oweE (F := F) c (due c h h h h))
      ⊢ iprop(((midSt m ρ true h c ∗ midSt m ρ false h c) ∗ oweE c (due c (h + 1) (h + 1) h h) -∗ WP c p Q)
          -∗ WP c (kMove (fun dir => fwd dir c) h p) Q) := by
  unfold kMove
  iintro ⟨#Hx, ⟨Ht, Hf⟩, ⟨Kt, Kf⟩, HO⟩ Hk
  rw [due_rcv_true c hh]
  iapply (hop_send true h hh c (due c (h + 1) h h h) _) $$ [Ht Kt HO]
  · isplitr; · iexact Hx
    isplitl [Ht]; · iexact Ht
    isplitl [Kt]; · iexact Kt
    iexact HO
  iintro ⟨Tcs, Tcv, Tp, HO⟩
  rw [due_rcv_false c (a₁ := h + 1) hh]
  iapply (hop_send false h hh c (due c (h + 1) (h + 1) h h) _) $$ [Hf Kf HO]
  · isplitr; · iexact Hx
    isplitl [Hf]; · iexact Hf
    isplitl [Kf]; · iexact Kf
    iexact HO
  iintro ⟨Fcs, Fcv, Fp, HO⟩
  iapply (hop_wait true h hh c (due c (h + 1) (h + 1) h h) (above_due c (by omega) (by omega) (by omega) (by omega)) _) $$ [Tcs Tcv Tp HO]
  · isplitr; · iexact Hx
    isplitl [Tcs]; · iexact Tcs
    isplitl [Tcv]; · iexact Tcv
    isplitl [Tp]; · iexact Tp
    iexact HO
  iintro ⟨Ht, HO⟩
  iapply (hop_wait false h hh c (due c (h + 1) (h + 1) h h) (above_due c (by omega) (by omega) (by omega) (by omega)) _) $$ [Fcs Fcv Fp HO]
  · isplitr; · iexact Hx
    isplitl [Fcs]; · iexact Fcs
    isplitl [Fcv]; · iexact Fcv
    isplitl [Fp]; · iexact Fp
    iexact HO
  iintro ⟨Hf, HO⟩
  iapply Hk
  isplitr [HO]
  · isplitl [Ht]; · iexact Ht
    iexact Hf
  iexact HO

/-- A direction's credit given. -/
theorem hop_give (dir : Bool) (h : ℕ) (hh : h < 30) (c : Dev nD) (O : CellTallies nD τ sig ℕ) (p : PP F) :
    iprop(ctx m ρ K ∗ midSt m ρ dir h c ∗ tokG (F := F) c dir h ∗ oweE (F := F) c (O + tallyAt (cell (.crd dir) (bwd dir c)) h 1))
      ⊢ iprop(((slotPts dir (sl (h + 1)) c (acc m ρ dir h (bwd dir c)) ∗ posSt dir h c) ∗ oweE c O -∗ WP c p Q)
          -∗ WP c (kSignal (bwd dir c) (credS dir) p) Q) := by
  unfold midSt posSt tokG
  iintro ⟨#Hx, ⟨Hs, Hv, Hr, Ha, Hb, Hc, He, Hg⟩, Ht, HO⟩ Hk
  unfold pos
  icases He with ⟨He, #Hre⟩
  iapply (step_credit dir h hh c O p) $$ [Hs Hr Ht HO]
  · isplitr; · iexact Hx
    isplitl [HO]; · iexact HO
    isplitl [Ht]; · iexact Ht
    isplitl [Hr]; · iexact Hr
    isplitl [Hs]; · unfold slotAny; iexists _; iexact Hs
    iexact Hre
  iintro HO
  iapply Hk
  isplitr [HO]
  · isplitl [Hv]; · iexact Hv
    isplitl [Ha]; · iexact Ha
    isplitl [Hb]; · iexact Hb
    isplitl [Hc]; · iexact Hc
    isplitl [He]
    · isplitl [He]; · iexact He
      iexact Hre
    iexact Hg
  iexact HO

/-- What a hop before the last does with what it received. -/
theorem hop_accum (h : ℕ) (hh : h < 30) (c : Dev nD) (p : PP F) :
    iprop(ctx m ρ K ∗ (midSt m ρ true h c ∗ midSt m ρ false h c) ∗ (tokG (F := F) c true h ∗ tokG (F := F) c false h) ∗ args m ρ c
        ∗ oweE (F := F) c (due c (h + 1) (h + 1) h h))
      ⊢ iprop(((accSt m ρ true h c ∗ accSt m ρ false h c) ∗ args m ρ c ∗ oweE c (due c (h + 1) (h + 1) (h + 1) (h + 1)) -∗ WP c p Q)
          -∗ WP c (kAccum (fun dir => fwd dir c) (rowsAt c) ⟨h, by omega⟩ p) Q) := by
  unfold kAccum args
  rw [rowsAt_eq, rowsAt_eq]
  iintro ⟨#Hx, ⟨Ht, Hf⟩, ⟨Kt, Kf⟩, Ha, HO⟩ Hk
  rw [due_crd_true c hh]
  iapply (hop_give true h hh c (due c (h + 1) (h + 1) (h + 1) h) _) $$ [Ht Kt HO]
  · isplitr; · iexact Hx
    isplitl [Ht]; · iexact Ht
    isplitl [Kt]; · iexact Kt
    iexact HO
  iintro ⟨⟨Ht, Pt⟩, HO⟩
  rw [due_crd_false c (b₁ := h + 1) hh]
  iapply (hop_give false h hh c (due c (h + 1) (h + 1) (h + 1) (h + 1)) _) $$ [Hf Kf HO]
  · isplitr; · iexact Hx
    isplitl [Hf]; · iexact Hf
    isplitl [Kf]; · iexact Kf
    iexact HO
  iintro ⟨⟨Hf, Pf⟩, HO⟩
  iapply (step_add true h (rowsN c true h) c (acc m ρ true h (bwd true c)) _) $$ [Ht Ha]
  · isplitl [Ht]; · iexact Ht
    iexact Ha
  iintro ⟨Ht, Ha⟩
  iapply (step_add false h (rowsN c false h) c (acc m ρ false h (bwd false c)) _) $$ [Hf Ha]
  · isplitl [Hf]; · iexact Hf
    iexact Ha
  iintro ⟨Hf, Ha⟩
  iapply Hk
  unfold accSt
  isplitl [Ht Hf Pt Pf]
  · isplitl [Ht Pt]
    · isplitl [Ht]; · iexact Ht
      iexact Pt
    isplitl [Hf]; · iexact Hf
    iexact Pf
  isplitl [Ha]; · iexact Ha
  iexact HO

/-- A direction's credit taken: the neighbour's slot for the next hop. -/
theorem hop_take (dir : Bool) (h : ℕ) (hh : h < 30) (c : Dev nD) (O : CellTallies nD τ sig ℕ) (hO : Above (2 * h + 3) O) (p : PP F) :
    iprop(ctx m ρ K ∗ accSt m ρ dir h c ∗ tokT (F := F) c dir h ∗ oweE (F := F) c O)
      ⊢ iprop((hopSt m ρ dir (h + 1) c ∗ oweE c O -∗ WP c p Q) -∗ WP c (kCredWait dir p) Q) := by
  unfold accSt posSt tokT hopSt
  rw [show h + 1 + 1 = h + 2 from rfl, sl_add_two, show (h + 2) / 2 = h / 2 + 1 by omega]
  iintro ⟨#Hx, ⟨Hs, Ha, Hb, Hc, He, Hg⟩, Ht, HO⟩ Hk
  iapply (step_credWait dir h c O hh hO p) $$ [Ht HO Hg]
  · isplitr; · iexact Hx
    isplitl [Ht]; · iexact Ht
    isplitl [HO]; · iexact HO
    iexact Hg
  iintro ⟨HO, Hg, Hd, Hr⟩
  iapply Hk
  isplitr [HO]
  · isplitl [Hs]; · iexact Hs
    isplitl [Hd]; · iexact Hd
    isplitl [Hr]; · iexact Hr
    isplitl [Hb]; · iexact Hb
    isplitl [Ha]; · iexact Ha
    isplitl [He]; · iexact He
    isplitl [Hc]; · iexact Hc
    iexact Hg
  iexact HO

/-- Both waits for credits: then both directions are ready for the next hop. -/
theorem hop_credits (h : ℕ) (hh : h < 30) (c : Dev nD) (p : PP F) :
    iprop(ctx m ρ K ∗ (accSt m ρ true h c ∗ accSt m ρ false h c) ∗ (tokT (F := F) c true h ∗ tokT (F := F) c false h)
        ∗ oweE (F := F) c (due c (h + 1) (h + 1) (h + 1) (h + 1)))
      ⊢ iprop(((hopSt m ρ true (h + 1) c ∗ hopSt m ρ false (h + 1) c) ∗ oweE c (due c (h + 1) (h + 1) (h + 1) (h + 1)) -∗ WP c p Q)
          -∗ WP c (kCredits p) Q) := by
  unfold kCredits
  iintro ⟨#Hx, ⟨Ht, Hf⟩, ⟨Kt, Kf⟩, HO⟩ Hk
  iapply (hop_take true h hh c (due c (h + 1) (h + 1) (h + 1) (h + 1)) (above_due c (by omega) (by omega) (by omega) (by omega)) _) $$ [Ht Kt HO]
  · isplitr; · iexact Hx
    isplitl [Ht]; · iexact Ht
    isplitl [Kt]; · iexact Kt
    iexact HO
  iintro ⟨Ht, HO⟩
  iapply (hop_take false h hh c (due c (h + 1) (h + 1) (h + 1) (h + 1)) (above_due c (by omega) (by omega) (by omega) (by omega)) _) $$ [Hf Kf HO]
  · isplitr; · iexact Hx
    isplitl [Hf]; · iexact Hf
    isplitl [Kf]; · iexact Kf
    iexact HO
  iintro ⟨Hf, HO⟩
  iapply Hk
  isplitr [HO]
  · isplitl [Ht]; · iexact Ht
    iexact Hf
  iexact HO

/-! ## The hops in turn -/

variable (m ρ) in
/-- After hop `h`: both directions' partial sums, what the later hops use up, the operands, what is still owed. -/
def stAfter (h : ℕ) (c : Dev nD) : sProp 𝕄 :=
  iprop((accSt m ρ true h c ∗ accSt m ρ false h c) ∗ (stock c true (h + 1) (h + 1) h ∗ stock c false (h + 1) (h + 1) h) ∗ args m ρ c
    ∗ oweE c (due c (h + 1) (h + 1) (h + 1) (h + 1)))

variable (m ρ) in
/-- After the last hop's transfers: both directions' partial sums received, the operands, nothing owed. -/
def stLast (c : Dev nD) : sProp 𝕄 := iprop((midSt m ρ true 30 c ∗ midSt m ρ false 30 c) ∗ args m ρ c ∗ oweE c 0)

/-- A hop before the last takes the state after hop `h` to that after hop `h + 1`. -/
theorem hop_mid (h : ℕ) (hh : h < 29) (c : Dev nD) (p : PP F) :
    iprop(ctx m ρ K ∗ stAfter m ρ h c)
      ⊢ iprop((stAfter m ρ (h + 1) c -∗ WP c p Q)
          -∗ WP c (kCredits (kMove (fun dir => fwd dir c) (h + 1) (kAccum (fun dir => fwd dir c) (rowsAt c) ⟨h + 1, by omega⟩ p))) Q) := by
  unfold stAfter stock
  iintro ⟨#Hx, Hs, ⟨⟨Mt, Gt, Tt⟩, ⟨Mf, Gf, Tf⟩⟩, Ha, HO⟩ Hk
  ihave Mt := (ico_step (tokM (F := F) c true) (a := h + 1) (b := 31) (by omega)) $$ Mt
  icases Mt with ⟨mt, Mt⟩
  ihave Mf := (ico_step (tokM (F := F) c false) (a := h + 1) (b := 31) (by omega)) $$ Mf
  icases Mf with ⟨mf, Mf⟩
  ihave Gt := (ico_step (tokG (F := F) c true) (a := h + 1) (b := 30) (by omega)) $$ Gt
  icases Gt with ⟨gt, Gt⟩
  ihave Gf := (ico_step (tokG (F := F) c false) (a := h + 1) (b := 30) (by omega)) $$ Gf
  icases Gf with ⟨gf, Gf⟩
  ihave Tt := (ico_step (tokT (F := F) c true) (a := h) (b := 30) (by omega)) $$ Tt
  icases Tt with ⟨tt, Tt⟩
  ihave Tf := (ico_step (tokT (F := F) c false) (a := h) (b := 30) (by omega)) $$ Tf
  icases Tf with ⟨tf, Tf⟩
  iapply (hop_credits h (by omega) c _) $$ [Hs tt tf HO]
  · isplitr; · iexact Hx
    isplitl [Hs]; · iexact Hs
    isplitl [tt tf]
    · isplitl [tt]; · iexact tt
      iexact tf
    iexact HO
  iintro ⟨Hs, HO⟩
  iapply (hop_move (h + 1) (by omega) c _) $$ [Hs mt mf HO]
  · isplitr; · iexact Hx
    isplitl [Hs]; · iexact Hs
    isplitl [mt mf]
    · isplitl [mt]; · iexact mt
      iexact mf
    iexact HO
  iintro ⟨Hs, HO⟩
  iapply (hop_accum (h + 1) (by omega) c _) $$ [Hs gt gf Ha HO]
  · isplitr; · iexact Hx
    isplitl [Hs]; · iexact Hs
    isplitl [gt gf]
    · isplitl [gt]; · iexact gt
      iexact gf
    isplitl [Ha]; · iexact Ha
    iexact HO
  iintro ⟨Hs, Ha, HO⟩
  iapply Hk
  isplitl [Hs]; · iexact Hs
  isplitr [Ha HO]
  · isplitl [Mt Gt Tt]
    · isplitl [Mt]; · iexact Mt
      isplitl [Gt]; · iexact Gt
      iexact Tt
    isplitl [Mf]; · iexact Mf
    isplitl [Gf]; · iexact Gf
    iexact Tf
  isplitl [Ha]; · iexact Ha
  iexact HO

/-- The last hop ends with both last partial sums received and nothing owed. -/
theorem hop_last (c : Dev nD) (p : PP F) :
    iprop(ctx m ρ K ∗ stAfter m ρ 29 c)
      ⊢ iprop((stLast m ρ c -∗ WP c p Q) -∗ WP c (kCredits (kMove (fun dir => fwd dir c) 30 p)) Q) := by
  unfold stAfter stock stLast
  iintro ⟨#Hx, Hs, ⟨⟨Mt, Gt, Tt⟩, ⟨Mf, Gf, Tf⟩⟩, Ha, HO⟩ Hk
  ihave Mt := (ico_step (tokM (F := F) c true) (a := 30) (b := 31) (by omega)) $$ Mt
  icases Mt with ⟨mt, Mt⟩
  ihave Mf := (ico_step (tokM (F := F) c false) (a := 30) (b := 31) (by omega)) $$ Mf
  icases Mf with ⟨mf, Mf⟩
  ihave Tt := (ico_step (tokT (F := F) c true) (a := 29) (b := 30) (by omega)) $$ Tt
  icases Tt with ⟨tt, Tt⟩
  ihave Tf := (ico_step (tokT (F := F) c false) (a := 29) (b := 30) (by omega)) $$ Tf
  icases Tf with ⟨tf, Tf⟩
  iapply (hop_credits 29 (by omega) c _) $$ [Hs tt tf HO]
  · isplitr; · iexact Hx
    isplitl [Hs]; · iexact Hs
    isplitl [tt tf]
    · isplitl [tt]; · iexact tt
      iexact tf
    iexact HO
  iintro ⟨Hs, HO⟩
  iapply (hop_move 30 (by omega) c _) $$ [Hs mt mf HO]
  · isplitr; · iexact Hx
    isplitl [Hs]; · iexact Hs
    isplitl [mt mf]
    · isplitl [mt]; · iexact mt
      iexact mf
    iexact HO
  iintro ⟨Hs, HO⟩
  iapply Hk
  isplitl [Hs]; · iexact Hs
  isplitl [Ha]; · iexact Ha
  rw [← due_end c]
  iexact HO

/-- The last `n` of the hops 1 … 29, and hop 30's transfers. -/
theorem hops (c : Dev nD) : ∀ (n : ℕ) (hn : n < 30),
    iprop(ctx m ρ K ∗ stAfter m ρ (29 - n) c)
      ⊢ iprop((stLast m ρ c -∗ WP c (kLast (F := F) (rowsAt c)) Q) -∗ WP c (kHops (F := F) (fun dir => fwd dir c) (rowsAt c) n hn) Q)
  | 0, _ => by unfold kHops; exact hop_last c _
  | n + 1, hn => by
    unfold kHops
    have e : (29 - (n + 1)) + 1 = 29 - n := by omega
    have hn' : n < 30 := by omega
    have H := hop_mid (K := K) (m := m) (ρ := ρ) (Q := Q) (29 - (n + 1)) (by omega) c (kHops (F := F) (fun dir => fwd dir c) (rowsAt c) n (by omega))
    simp only [e] at H
    iintro ⟨#Hx, Hs⟩ Hk
    iapply H $$ [Hs]
    · isplitr; · iexact Hx
      iexact Hs
    iintro Hs
    iapply (hops c n hn') $$ [Hs]
    · isplitr; · iexact Hx
      iexact Hs
    iexact Hk

end Cert.Proof

end
-- ==== Proof.Last.lean ====
/-
  The last hop, the handshake before the first, and the body whole.
-/
module

public import proofs.«01_k».proof.Proof.Body
public import Idealize.ShloMosaic.Lib.ValueIdxCore

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.ValueIdx
variable (m : (ℓ : Loc nD τ sig) → Buf (Elt F) ℓ) (ρ : Dev nD → PrngReg) (K : Dev nD × CK → ℕ)

/-! ## The result -/

/-- The two scale factors, as read. -/
def scaleX (c : Dev nD) : Elt F .f32 :=
  (sxM.access (Rect.unit (s := S1) ![0] S1.size inb_S1_S1_0)).read (Elt F) (pstg m ρ c) (Shape.Idx.first (numel1_S1.symm ▸ Nat.one_pos))
def scaleW (c : Dev nD) : Elt F .f32 :=
  (swM.access (Rect.unit (s := S1) ![0] S1.size inb_S1_S1_0)).read (Elt F) (qstg m ρ c) (Shape.Idx.first (numel1_S1.symm ▸ Nat.one_pos))

/-- One half of a device's columns of the result: the sum around the ring, scaled. -/
def half (dir : Bool) (c : Dev nD) : FVec F S128x4096 .f32 :=
  mulf (acc m ρ dir 31 c) (broadcast S128x4096 (Scalar.mulf (scaleX m ρ c) (scaleW m ρ c)))

/-- Two halves side by side. -/
def halves (A B : FVec F S128x4096 .f32) : FVec F S128x8192 .f32 := fun i =>
  if h : (i 1).val < 4096 then A (ix2 ⟨(i 0).val, idx2_lt0 i⟩ ⟨(i 1).val, h⟩)
  else B (ix2 ⟨(i 0).val, idx2_lt0 i⟩ ⟨(i 1).val - 4096, by have := idx2_lt1 i; omega⟩)

/-- What a device's block of the result holds. -/
def outAt (c : Dev nD) : (cc0_stg4_0 : Ref sig .tc).ty.Contents (Elt F) := halves (half m ρ true c) (half m ρ false c)

omit [FloatOps F] in
/-- The two halves stored cover the block. -/
theorem halves_write (f : (cc0_stg4_0 : Ref sig .tc).ty.Contents (Elt F)) (A B : FVec F S128x4096 .f32) :
    (oM.access (colR false)).write (Elt F) ((oM.access (colR true)).write (Elt F) f A Finset.univ) B Finset.univ = halves A B := by
  have h1 : (oM.access (colR true)).write (Elt F) f A Finset.univ = updateSlice f A ![0, 0] ⟨rfl, col_inb true⟩ :=
    View.write_whole_slice_unit cc0_stg4_0 ![0, 0] S128x4096.size (col_inb true) f A
  have h2 (g) : (oM.access (colR false)).write (Elt F) g B Finset.univ = updateSlice g B ![0, 4096] ⟨rfl, col_inb false⟩ :=
    View.write_whole_slice_unit cc0_stg4_0 ![0, 4096] S128x4096.size (col_inb false) g B
  rw [h2, h1]
  funext i
  have i0 : (i 0).val < 128 := idx2_lt0 i
  have i1 : (i 1).val < 8192 := idx2_lt1 i
  unfold updateSlice halves
  by_cases h : (i 1).val < 4096
  · rw [dif_neg (by intro hh; have h3 := (hh 1).1; have : 4096 ≤ (i 1).val := h3; omega), dif_pos (by
      intro a; fin_cases a
      · exact ⟨Nat.zero_le _, by show (i 0).val < 0 + 128; omega⟩
      · exact ⟨Nat.zero_le _, by show (i 1).val < 0 + 4096; omega⟩), dif_pos h]
    congr 1
    funext b; apply Fin.ext; fin_cases b <;> rfl
  · rw [dif_pos (by
      intro a; fin_cases a
      · exact ⟨Nat.zero_le _, by show (i 0).val < 0 + 128; omega⟩
      · exact ⟨by show 4096 ≤ (i 1).val; omega, by show (i 1).val < 4096 + 4096; omega⟩), dif_neg h]
    congr 1
    funext b; apply Fin.ext; fin_cases b <;> rfl

/-- The scales' staging buffers, and the result's at contents `f`. -/
def scales (c : Dev nD) : sProp 𝕄 := iprop(pPts m ρ c ∗ qPts m ρ c)
def oPts (c : Dev nD) (f : (cc0_stg4_0 : Ref sig .tc).ty.Contents (Elt F)) : sProp 𝕄 := ((c : Thread nD τ).loc cc0_stg4_0) ↦{fullShare} f

variable {m ρ K}
variable {Q : PUnit.{1} → sProp (MT nD τ sig ℕ (Elt F) ℕ UU ℕ)}

/-! ## The last hop -/

/-- The two scales are read. -/
theorem step_scales (c : Dev nD) (k : Elt F .f32 → Elt F .f32 → PP F) :
    scales m ρ c ⊢ iprop((scales m ρ c -∗ WP c (k (scaleX m ρ c) (scaleW m ρ c)) Q) -∗ WP c (kScale sxM fun p => kScale swM fun q => k p q) Q) := by
  unfold scales pPts qPts
  show _ ⊢ iprop(_ -∗ WP c (smemLoadElt sxM (Rect.unit (s := S1) ![0] S1.size inb_S1_S1_0) (View.loads_smem_one rfl numel1_S1) (Shape.Idx.first (numel1_S1.symm ▸ Nat.one_pos))
    fun p => smemLoadElt swM (Rect.unit (s := S1) ![0] S1.size inb_S1_S1_0) (View.loads_smem_one rfl numel1_S1) (Shape.Idx.first (numel1_S1.symm ▸ Nat.one_pos)) fun q => k p q) Q)
  iintro ⟨Hp, Hq⟩ Hk
  iapply (wp_smemLoadElt 𝒱₀ (c : Thread nD τ) none Set.univ (m := sxM) (r := Rect.unit (s := S1) ![0] S1.size inb_S1_S1_0) (S := Finset.univ) (Finset.subset_univ _)) $$ Hp; iintro Hp
  iapply (wp_smemLoadElt 𝒱₀ (c : Thread nD τ) none Set.univ (m := swM) (r := Rect.unit (s := S1) ![0] S1.size inb_S1_S1_0) (S := Finset.univ) (Finset.subset_univ _)) $$ Hq; iintro Hq
  iapply Hk
  isplitl [Hp]; · iexact Hp
  iexact Hq

/-- A received partial sum, the device's own product added, scaled, stored. -/
theorem step_out (dir : Bool) (o : Rows) (a b : Elt F .f32) (c : Dev nD) (v : Vec F S128x4096 .f32) (f : (cc0_stg4_0 : Ref sig .tc).ty.Contents (Elt F)) (p : PP F) :
    iprop(slotPts dir (sl 31) c v ∗ args m ρ c ∗ oPts c f)
      ⊢ iprop((slotPts dir (sl 31) c v ∗ args m ρ c
            ∗ oPts c ((oM.access (colR dir)).write (Elt F) f (mulf (addf v (prod m ρ c dir o)) (broadcast S128x4096 (Scalar.mulf a b))) Finset.univ)
          -∗ WP c p Q) -∗ WP c (kOut dir o a b p) Q) := by
  unfold args xPts wPts oPts kOut; simp only [slotPts_eq]
  iintro ⟨⟨%g, %hg, Hs⟩, ⟨Hx, Hw⟩, Ho⟩ Hk
  iapply (wp_load_rect 𝒱₀ (c : Thread nD τ) none Set.univ (m := comm dir) (r := slotR (sl 31)) (Finset.Subset.refl _)) $$ Hs; iintro Hs
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := colR dir) (Mk := Finset.univ) (S := Finset.univ) (Finset.subset_univ _)) $$ Ho; iintro Ho
  iapply Hk
  subst hg
  isplitl [Hs]
  · iexists g; isplitr
    · ipureintro; rfl
    iexact Hs
  isplitr [Ho]
  · isplitl [Hx]; · iexact Hx
    iexact Hw
  iexact Ho

/-! ## Closing a device's cells -/

/-- A semaphore whose rounds are over is at zero. -/
theorem close_at (k : CK) (c : Dev nD) (R : ℕ) (hR : ∀ r, R ≤ r → dutiesK k r = ∅) :
    iprop(ctx m ρ K ∗ pos (F := F) k c R) ⊢ |={Set.univ}=> (semVal (cell k c) 0 : sProp 𝕄) := by
  unfold pos
  iintro ⟨#Hx, Ha, -⟩
  iapply (Rounds.cell_close ER (ringRd m ρ) (Set.mem_univ (K (c, k))) (fun h => h) (R := R) (later_cell m ρ k c R hR))
  isplitr; · iapply (ctx_inv m ρ K k c); iexact Hx
  iexact Ha

/-- A direction's five counters. -/
def zeros (dir : Bool) (c : Dev nD) : sProp 𝕄 :=
  iprop(semVal (cell (.snd dir 0) c) 0 ∗ semVal (cell (.snd dir 1) c) 0 ∗ semVal (cell (.rcv dir 0) c) 0 ∗ semVal (cell (.rcv dir 1) c) 0
    ∗ semVal (cell (.crd dir) c) 0)

/-- So are all five of a direction after the last hop. -/
theorem close_dir (dir : Bool) (c : Dev nD) : iprop(ctx m ρ K ∗ posSt (F := F) dir 30 c) ⊢ |={Set.univ}=> (zeros dir c : sProp 𝕄) := by
  unfold posSt zeros
  rw [show sl 30 = 0 from rfl, show sl (30 + 1) = 1 from rfl]
  iintro ⟨#Hx, Ha, Hb, Hc, He, Hg⟩
  imod (close_at (K := K) (m := m) (ρ := ρ) (.snd dir 0) c (30 / 2 + 1) (fun r hr => by dsimp only [dutiesK]; rw [if_neg]; simp only [Fin.val_zero]; omega)) $$ [Ha] with Ha
  · isplitr; · iexact Hx
    iexact Ha
  imod (close_at (K := K) (m := m) (ρ := ρ) (.snd dir 1) c ((30 + 1) / 2) (fun r hr => by dsimp only [dutiesK]; rw [if_neg]; simp only [Fin.val_one]; omega)) $$ [Hb] with Hb
  · isplitr; · iexact Hx
    iexact Hb
  imod (close_at (K := K) (m := m) (ρ := ρ) (.rcv dir 1) c (30 / 2 + 1) (fun r hr => by dsimp only [dutiesK]; rw [if_neg]; simp only [Fin.val_one]; omega)) $$ [Hc] with Hc
  · isplitr; · iexact Hx
    iexact Hc
  imod (close_at (K := K) (m := m) (ρ := ρ) (.rcv dir 0) c ((30 + 1) / 2) (fun r hr => by dsimp only [dutiesK]; rw [if_neg]; simp only [Fin.val_zero]; omega)) $$ [He] with He
  · isplitr; · iexact Hx
    iexact He
  imod (close_at (K := K) (m := m) (ρ := ρ) (.crd dir) c 30 (fun r hr => by dsimp only [dutiesK]; rw [if_neg]; omega)) $$ [Hg] with Hg
  · isplitr; · iexact Hx
    iexact Hg
  imodintro
  isplitl [Ha]; · iexact Ha
  isplitl [Hb]; · iexact Hb
  isplitl [He]; · iexact He
  isplitl [Hc]; · iexact Hc
  iexact Hg

variable (F) in
/-- A direction's two slots, whatever they read. -/
def slots (dir : Bool) (c : Dev nD) : sProp 𝕄 := iprop(slotAny (F := F) dir 0 c ∗ slotAny (F := F) dir 1 c)

variable (m ρ) in
/-- What a device has after its body. -/
def endSt (c : Dev nD) : sProp 𝕄 :=
  iprop((slots F true c ∗ slots F false c) ∗ (zeros true c ∗ zeros false c ∗ semVal (cell .bar c) 0) ∗ args m ρ c ∗ scales m ρ c ∗ oPts c (outAt m ρ c) ∗ oweE c 0)

/-- The last hop's additions, and the end. -/
theorem last (c : Dev nD) (f : (cc0_stg4_0 : Ref sig .tc).ty.Contents (Elt F)) :
    iprop(ctx m ρ K ∗ stLast m ρ c ∗ pos (F := F) .bar c 1 ∗ scales m ρ c ∗ oPts c f)
      ⊢ iprop((endSt m ρ c -∗ Q ⟨⟩) -∗ WP c (kLast (F := F) (rowsAt c)) Q) := by
  unfold stLast midSt kLast
  rw [show sl (30 + 1) = sl 31 from rfl, show rowsAt c true 30 = rowsN c true 30 from rowsAt_eq c true 30, show rowsAt c false 30 = rowsN c false 30 from rowsAt_eq c false 30]
  iintro ⟨#Hx, ⟨⟨⟨Ta, Tb, -, Tp⟩, ⟨Fa, Fb, -, Fp⟩⟩, Ha, HO⟩, Hb, Hs, Ho⟩ Hk
  iapply (step_scales c _) $$ Hs
  iintro Hs
  iapply (step_out true (rowsN c true 30) _ _ c _ f _) $$ [Tb Ha Ho]
  · isplitl [Tb]; · iexact Tb
    isplitl [Ha]; · iexact Ha
    iexact Ho
  iintro ⟨Tb, Ha, Ho⟩
  iapply (step_out false (rowsN c false 30) _ _ c _ _ _) $$ [Fb Ha Ho]
  · isplitl [Fb]; · iexact Fb
    isplitl [Ha]; · iexact Ha
    iexact Ho
  iintro ⟨Fb, Ha, Ho⟩
  imod (close_dir true c) $$ [Tp] with Tz
  · isplitr; · iexact Hx
    iexact Tp
  imod (close_dir false c) $$ [Fp] with Fz
  · isplitr; · iexact Hx
    iexact Fp
  imod (close_at .bar c 1 (fun r hr => by dsimp only [dutiesK]; rw [if_neg]; omega)) $$ [Hb] with Bz
  · isplitr; · iexact Hx
    iexact Hb
  rw [halves_write]
  rw [wp_ret]; imodintro
  iapply Hk
  unfold endSt slots slotAny
  isplitl [Ta Tb Fa Fb]
  · isplitl [Ta Tb]
    · isplitl [Ta]; · iexists _; iexact Ta
      iexists _; iexact Tb
    isplitl [Fa]; · iexists _; iexact Fa
    iexists _; iexact Fb
  isplitl [Tz Fz Bz]
  · isplitl [Tz]; · iexact Tz
    isplitl [Fz]; · iexact Fz
    iexact Bz
  isplitl [Ha]; · iexact Ha
  isplitl [Hs]; · iexact Hs
  isplitl [Ho]; · iexact Ho
  iexact HO

/-! ## The whole body -/

/-- A direction's cells before any hop. -/
def posDir (dir : Bool) (c : Dev nD) : sProp 𝕄 :=
  iprop(pos (.snd dir 0) c 0 ∗ pos (.snd dir 1) c 0 ∗ pos (.rcv dir 0) c 0 ∗ pos (.rcv dir 1) c 0 ∗ pos (.crd dir) c 0)

/-- What the launch deals a device. -/
def ghost (c : Dev nD) : sProp 𝕄 :=
  iprop((pos .bar c 0 ∗ posDir true c ∗ posDir false c)
    ∗ (dutyTok ER (cell .bar (bwd true c)) 0 true ∗ dutyTok ER (cell .bar (bwd false c)) 0 false)
    ∗ (stock c true 0 0 0 ∗ stock c false 0 0 0) ∗ cred (tallyAt (cell .bar c) 0 2))

variable (m ρ) in
/-- What a device has before its body. -/
def beginSt (c : Dev nD) (f : (cc0_stg4_0 : Ref sig .tc).ty.Contents (Elt F)) : sProp 𝕄 :=
  iprop(ghost c ∗ (slots F true c ∗ slots F false c) ∗ args m ρ c ∗ scales m ρ c ∗ oPts c f ∗ oweE c (O₀ c))

/-- After the handshake a direction is ready for its first hop. -/
theorem hop_ready (dir : Bool) (c : Dev nD) :
    iprop(posDir (F := F) dir c ∗ slotPts dir (sl 0) c (prod m ρ c dir (rowsFst c dir)) ∗ payK m ρ c .bar 0 dir) ⊢ hopSt m ρ dir 0 c := by
  unfold posDir hopSt
  rw [pay_bar]
  iintro ⟨⟨Ha, Hb, Hc, He, Hg⟩, Hs, Hd, Hr⟩
  isplitl [Hs]; · iexact Hs
  isplitl [Hd]; · iexact Hd
  isplitl [Hr]; · iexact Hr
  isplitl [Ha]; · iexact Ha
  isplitl [Hb]; · iexact Hb
  isplitl [He]; · iexact He
  isplitl [Hc]; · iexact Hc
  iexact Hg

/-- A device's body, from what it has at the start, ends with the result stored, nothing owed and its semaphores at zero. -/
theorem body_ok (c : Dev nD) (f : (cc0_stg4_0 : Ref sig .tc).ty.Contents (Elt F)) :
    iprop(ctx m ρ K ∗ beginSt m ρ c f)
      ⊢ iprop((endSt m ρ c -∗ Q ⟨⟩) -∗ WP c (kBody (F := F) (fwdD c) (rowsAt c) (rowsFst c)) Q) := by
  rw [fwdD_eq]
  unfold beginSt ghost stock slots kBody kStart O₀ O₁
  iintro ⟨#Hx, ⟨⟨Hb, Tp, Fp⟩, ⟨Tt, Ft⟩, ⟨⟨Mt, Gt, Ct⟩, ⟨Mf, Gf, Cf⟩⟩, Hc⟩, ⟨⟨Ta, Tb⟩, ⟨Fa, Fb⟩⟩, Ha, Hs, Ho, HO⟩ Hk
  ihave Mt := (ico_step (tokM (F := F) c true) (a := 0) (b := 31) (by omega)) $$ Mt
  icases Mt with ⟨mt, Mt⟩
  ihave Mf := (ico_step (tokM (F := F) c false) (a := 0) (b := 31) (by omega)) $$ Mf
  icases Mf with ⟨mf, Mf⟩
  ihave Gt := (ico_step (tokG (F := F) c true) (a := 0) (b := 30) (by omega)) $$ Gt
  icases Gt with ⟨gt, Gt⟩
  ihave Gf := (ico_step (tokG (F := F) c false) (a := 0) (b := 30) (by omega)) $$ Gf
  icases Gf with ⟨gf, Gf⟩
  iapply (step_bar true c (due c 0 0 0 0 + tallyAt (cell .bar (fwd true c)) 0 1) _) $$ [HO Tt Tb]
  · isplitr; · iexact Hx
    isplitl [HO]; · iexact HO
    isplitl [Tt]; · iexact Tt
    iexact Tb
  iintro HO
  iapply (step_bar false c (due c 0 0 0 0) _) $$ [HO Ft Fb]
  · isplitr; · iexact Hx
    isplitl [HO]; · iexact HO
    isplitl [Ft]; · iexact Ft
    iexact Fb
  iintro HO
  iapply (step_barWait c (due c 0 0 0 0) (above_due c (by omega) (by omega) (by omega) (by omega)) _) $$ [HO Hc Hb]
  · isplitr; · iexact Hx
    isplitl [Hc]; · iexact Hc
    isplitl [HO]; · iexact HO
    iexact Hb
  iintro ⟨HO, Hb, Td, Fd⟩
  unfold args
  icases Ha with ⟨Ha, Hw⟩
  iapply (step_init true (rowsFst c true) c _) $$ [Ta Ha Hw]
  · isplitl [Ta]; · iexact Ta
    isplitl [Ha]; · iexact Ha
    iexact Hw
  iintro ⟨Ta, Ha, Hw⟩
  iapply (step_init false (rowsFst c false) c _) $$ [Fa Ha Hw]
  · isplitl [Fa]; · iexact Fa
    isplitl [Ha]; · iexact Ha
    iexact Hw
  iintro ⟨Fa, Ha, Hw⟩
  ihave Ts := (hop_ready (m := m) (ρ := ρ) true c) $$ [Tp Ta Td]
  · isplitl [Tp]; · iexact Tp
    isplitl [Ta]; · iexact Ta
    iexact Td
  ihave Fs := (hop_ready (m := m) (ρ := ρ) false c) $$ [Fp Fa Fd]
  · isplitl [Fp]; · iexact Fp
    isplitl [Fa]; · iexact Fa
    iexact Fd
  iapply (hop_move 0 (by omega) c _) $$ [Ts Fs mt mf HO]
  · isplitr; · iexact Hx
    isplitl [Ts Fs]
    · isplitl [Ts]; · iexact Ts
      iexact Fs
    isplitl [mt mf]
    · isplitl [mt]; · iexact mt
      iexact mf
    iexact HO
  iintro ⟨Hm, HO⟩
  iapply (hop_accum 0 (by omega) c _) $$ [Hm gt gf Ha Hw HO]
  · isplitr; · iexact Hx
    isplitl [Hm]; · iexact Hm
    isplitl [gt gf]
    · isplitl [gt]; · iexact gt
      iexact gf
    isplitl [Ha Hw]
    · unfold args; isplitl [Ha]; · iexact Ha
      iexact Hw
    iexact HO
  iintro ⟨Hm, Ha, HO⟩
  have h29 : 29 < 30 := by omega
  iapply (hops c 29 h29) $$ [Hm Mt Gt Ct Mf Gf Cf Ha HO]
  · isplitr; · iexact Hx
    unfold stAfter stock
    isplitl [Hm]; · iexact Hm
    isplitl [Mt Gt Ct Mf Gf Cf]
    · isplitl [Mt Gt Ct]
      · isplitl [Mt]; · iexact Mt
        isplitl [Gt]; · iexact Gt
        iexact Ct
      isplitl [Mf]; · iexact Mf
      isplitl [Gf]; · iexact Gf
      iexact Cf
    isplitl [Ha]; · iexact Ha
    iexact HO
  iintro Hl
  iapply (last c f) $$ [Hl Hb Hs Ho]
  · isplitr; · iexact Hx
    isplitl [Hl]; · iexact Hl
    isplitl [Hb]; · iexact Hb
    isplitl [Hs]; · iexact Hs
    iexact Ho
  iexact Hk

end Cert.Proof

end
-- ==== Proof.Deal.lean ====
/-
  What the launch deals each device: the slots, the tokens, the credit, the cells' records.
-/
module

public import proofs.«01_k».proof.Proof.Last

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The two slots of a buffer -/

/-- A buffer's elements outside slot 0 are slot 1's. -/
theorem slotR_compl : Finset.univ \ (slotR 0).set = (slotR 1).set := by
  ext i
  have h0 : (i 0).val < 2 := (i 0).isLt
  have h1 : (i 1).val < 128 := (i 1).isLt
  have h2 : (i 2).val < 4096 := (i 2).isLt
  rw [Finset.mem_sdiff]
  unfold slotR
  rw [Rect.mem_set_unit, Rect.mem_set_unit]
  constructor
  · rintro ⟨-, h⟩ a
    by_contra hc
    refine h fun b => ?_
    fin_cases b
    · refine ⟨Nat.zero_le _, ?_⟩
      show (i 0).val < 0 + 1
      by_contra h3
      refine hc ?_
      fin_cases a
      · exact ⟨by show 1 ≤ (i 0).val; omega, by show (i 0).val < 1 + 1; omega⟩
      · exact ⟨Nat.zero_le _, by show (i 1).val < 0 + 128; omega⟩
      · exact ⟨Nat.zero_le _, by show (i 2).val < 0 + 4096; omega⟩
    · exact ⟨Nat.zero_le _, by show (i 1).val < 0 + 128; omega⟩
    · exact ⟨Nat.zero_le _, by show (i 2).val < 0 + 4096; omega⟩
  · intro h
    refine ⟨Finset.mem_univ _, fun h' => ?_⟩
    have e1 : 1 ≤ (i 0).val := (h 0).1
    have e2 : (i 0).val < 0 + 1 := (h' 0).2
    omega
/-- The two slots make up the buffer. -/
theorem slot_compl (dir : Bool) : Finset.univ \ (slotM dir 0).view.set = (slotM dir 1).view.set := by
  rw [slot_set, slot_set]
  cases dir
  · exact (congrArg (Finset.univ \ ·) (View.set_slice_whole cc0_scratch1 (slotR 0))).trans (slotR_compl.trans (View.set_slice_whole cc0_scratch1 (slotR 1)).symm)
  · exact (congrArg (Finset.univ \ ·) (View.set_slice_whole cc0_scratch0 (slotR 0))).trans (slotR_compl.trans (View.set_slice_whole cc0_scratch0 (slotR 1)).symm)

/-- A buffer of a direction, whole, whatever it holds. -/
def buf (dir : Bool) (c : Dev nD) : sProp 𝕄 :=
  iprop(∃ f : Buf (Elt F) ((slotM dir 0).view.loc (c : Thread nD τ)), ((slotM dir 0).view.loc (c : Thread nD τ)) ↦{fullShare} f)

/-- So a buffer splits into its slots; -/
theorem slot_split (dir : Bool) (c : Dev nD) (f : Buf (Elt F) ((slotM dir 0).view.loc (c : Thread nD τ))) :
    (((slotM dir 0).view.loc (c : Thread nD τ)) ↦{fullShare} f : sProp 𝕄)
      ⊢ iprop((((slotM dir 0).view.loc (c : Thread nD τ)) ↦[(slotM dir 0).view.set]{fullShare} f) ∗ (((slotM dir 1).view.loc (c : Thread nD τ)) ↦[(slotM dir 1).view.set]{fullShare} f)) :=
  (pointsTo_split_subset (Finset.subset_univ (slotM dir 0).view.set)).1.trans (Entails.of_eq
    (congrArg (fun S => iprop((((slotM dir 0).view.loc (c : Thread nD τ)) ↦[(slotM dir 0).view.set]{fullShare} f) ∗ (((slotM dir 0).view.loc (c : Thread nD τ)) ↦[S]{fullShare} f))) (slot_compl dir)))
/-- and they join to a buffer; -/
theorem slot_join (dir : Bool) (c : Dev nD) (f : Buf (Elt F) ((slotM dir 0).view.loc (c : Thread nD τ))) (g : Buf (Elt F) ((slotM dir 1).view.loc (c : Thread nD τ))) :
    iprop((((slotM dir 0).view.loc (c : Thread nD τ)) ↦[(slotM dir 0).view.set]{fullShare} f) ∗ (((slotM dir 1).view.loc (c : Thread nD τ)) ↦[(slotM dir 1).view.set]{fullShare} g))
      ⊢ buf (F := F) dir c :=
  ((Entails.of_eq
    (congrArg (fun S => iprop((((slotM dir 0).view.loc (c : Thread nD τ)) ↦[(slotM dir 0).view.set]{fullShare} f) ∗ (((slotM dir 0).view.loc (c : Thread nD τ)) ↦[S]{fullShare} g))) (slot_compl dir).symm)).trans
    (pointsTo_join_subset (Finset.subset_univ (slotM dir 0).view.set))).trans (by unfold buf; iintro H; iexists _; iexact H)

/-- whatever it holds; -/
theorem slots_intro (dir : Bool) (c : Dev nD) : buf (F := F) dir c ⊢ slots F dir c := by
  unfold buf slots slotAny slotPts
  iintro ⟨%f, H⟩
  ihave H := (slot_split dir c f) $$ H
  icases H with ⟨H0, H1⟩
  isplitl [H0]
  · iexists _; iexists f; isplitr; · ipureintro; rfl
    iexact H0
  iexists _; iexists f; isplitr; · ipureintro; rfl
  iexact H1
/-- whatever they hold. -/
theorem slots_elim (dir : Bool) (c : Dev nD) : slots F dir c ⊢ buf (F := F) dir c := by
  unfold slots slotAny slotPts
  iintro ⟨⟨%v, %f, -, H0⟩, ⟨%w, %g, -, H1⟩⟩
  iapply (slot_join dir c f g)
  isplitl [H0]; · iexact H0
  iexact H1

/-! ## The semaphores -/

/-- The kernel's own semaphores. -/
abbrev osem : Fin 10 → SemLoc sig := fun i => csem (ckOwn[i.val]'i.isLt)
/-- They are distinct, and none of them is a staging semaphore. -/
theorem ownSemFacts : Pipeline.OwnSemFacts cfg0.spec osem := by decide

omit [FloatOps F] in
/-- One thing for each kind is one for each of the eleven kinds listed. -/
theorem bigSep_CK (Φ : CK → sProp 𝕄) : bigSep Finset.univ Φ
    = iprop(Φ (.snd true 0) ∗ Φ (.snd true 1) ∗ Φ (.rcv true 0) ∗ Φ (.rcv true 1) ∗ Φ (.snd false 0) ∗ Φ (.snd false 1) ∗ Φ (.rcv false 0) ∗ Φ (.rcv false 1)
        ∗ Φ (.crd true) ∗ Φ (.crd false) ∗ Φ .bar) :=
  bigSep_univ_eq_bigSepL ckList (by decide) (by decide) Φ

omit [FloatOps F] in
/-- The kernel's own semaphores at zero, one by one. -/
theorem ownSems0_eq (c : Dev nD) : (Pipeline.ownSems0 (Ix := ℕ) (Name := ℕ) (U := UU) (Lvl := ℕ) (Val := Elt F) (τ := τ) osem c : sProp 𝕄)
    = iprop(semVal (cell (.snd true 0) c) 0 ∗ semVal (cell (.snd true 1) c) 0 ∗ semVal (cell (.rcv true 0) c) 0 ∗ semVal (cell (.rcv true 1) c) 0
        ∗ semVal (cell (.snd false 0) c) 0 ∗ semVal (cell (.snd false 1) c) 0 ∗ semVal (cell (.rcv false 0) c) 0 ∗ semVal (cell (.rcv false 1) c) 0
        ∗ semVal (cell (.crd true) c) 0 ∗ semVal (cell (.crd false) c) 0) := by
  rw [Pipeline.ownSems0_eq_of_list c osem [0, 1, 2, 3, 4, 5, 6, 7, 8, 9] (by decide) (by decide)]; rfl
omit [FloatOps F] in
/-- The handshake's semaphore is the only other one. -/
theorem unscopedSems0_eq (c : Dev nD) : (unscopedSems0 c : sProp 𝕄) = semVal (cell .bar c) 0 := by
  unfold unscopedSems0; rw [bigSep_eq_bigSepL_of_eq [SemLoc.reg barS] (by decide) (by decide)]; rfl

omit [FloatOps F] in
/-- Together they are the semaphores of every kind. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell k c) 0 : sProp 𝕄) := by
  rw [ownSems0_eq, unscopedSems0_eq, bigSep_CK]
  iintro ⟨⟨H0, H1, H2, H3, H4, H5, H6, H7, H8, H9⟩, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HB

/-! ## The cells and the tokens minted -/

/-- The shared semaphores of all devices. -/
abbrev kcell (x : Dev nD × CK) : GSem nD τ sig := cell x.2 x.1
/-- No two of them are the same. -/
theorem kcell_injective : Function.Injective kcell := by
  rintro ⟨c, k⟩ ⟨c', k'⟩ h
  obtain ⟨h1, h2⟩ := cell_inj h
  exact Prod.ext h2 h1
/-- All of them. -/
def ringCells : Finset (GSem nD τ sig) := Finset.univ.map ⟨kcell, kcell_injective⟩

/-- What a device pays in a direction: the handshake; its own sends; its neighbour's receives; the credits. -/
abbrev TK : Type := Bool × (Unit ⊕ (Fin 31 ⊕ (Fin 31 ⊕ Fin 30)))
/-- The kind of the semaphore such a payment is made to, its device, its round, and its number in the round. -/
def tokK (d : Bool) : Unit ⊕ (Fin 31 ⊕ (Fin 31 ⊕ Fin 30)) → CK
  | .inl _ => .bar | .inr (.inl h) => .snd d (sl h.val) | .inr (.inr (.inl h)) => .rcv d (sl (h.val + 1)) | .inr (.inr (.inr _)) => .crd d
def tokD (d : Bool) (c : Dev nD) : Unit ⊕ (Fin 31 ⊕ (Fin 31 ⊕ Fin 30)) → Dev nD
  | .inl _ => bwd d c | .inr (.inl _) => c | .inr (.inr (.inl _)) => fwd d c | .inr (.inr (.inr _)) => bwd d c
def tokR : Unit ⊕ (Fin 31 ⊕ (Fin 31 ⊕ Fin 30)) → ℕ
  | .inl _ => 0 | .inr (.inl h) => h.val / 2 | .inr (.inr (.inl h)) => h.val / 2 | .inr (.inr (.inr h)) => h.val
def tokB (d : Bool) : Unit ⊕ (Fin 31 ⊕ (Fin 31 ⊕ Fin 30)) → Bool
  | .inl _ => d | .inr _ => false
/-- A payment, by the device that makes it. -/
def tokOf (x : Dev nD × TK) : GSem nD τ sig × ℕ × Bool := (cell (tokK x.2.1 x.2.2) (tokD x.2.1 x.1 x.2.2), tokR x.2.2, tokB x.2.1 x.2.2)

/-- A sending slot and its round determine the hop; and so do a receiving slot and its. -/
theorem sl_half {h h' : ℕ} (e : sl h = sl h') (e' : h / 2 = h' / 2) : h = h' := by
  have := congrArg Fin.val e
  dsimp only [sl] at this; omega
theorem sl_half' {h h' : ℕ} (e : sl (h + 1) = sl (h' + 1)) (e' : h / 2 = h' / 2) : h = h' := by
  have := congrArg Fin.val e
  dsimp only [sl] at this; omega

/-- Different devices have different neighbours. -/
theorem fwd_inj (d : Bool) {c c' : Dev nD} (h : fwd d c = fwd d c') : c = c' := (ringE d).injective h

/-- No payment is made twice. -/
theorem tokOf_injective : Function.Injective tokOf := by
  rintro ⟨c, d, t⟩ ⟨c', d', t'⟩ h
  obtain ⟨h1, h2⟩ := cell_inj (congrArg Prod.fst h)
  have hr : tokR t = tokR t' := congrArg (fun x => x.2.1) h
  have hd : tokB d t = tokB d' t' := congrArg (fun x => x.2.2) h
  dsimp only at h1 h2
  rcases t with _ | t | t | t <;> rcases t' with _ | t' | t' | t' <;> dsimp only [tokK, tokD, tokR, tokB] at h1 h2 hr hd
  all_goals first | exact CK.noConfusion h1 | skip
  · subst hd; rw [fwd_inj _ h2]
  · injection h1 with e1 e2
    subst e1; subst h2; rw [Fin.ext (sl_half e2 hr)]
  · injection h1 with e1 e2
    subst e1; rw [fwd_inj _ h2, Fin.ext (sl_half' e2 hr)]
  · injection h1 with e1
    subst e1; rw [fwd_inj _ h2, Fin.ext hr]
/-- All payments. -/
def ringToks : Finset (GSem nD τ sig × ℕ × Bool) := Finset.univ.map ⟨tokOf, tokOf_injective⟩

/-- The state at the launch: the staging's and the ring's. -/
def u₀ : UU :=
  (initOf (Pipeline.cells cfgs cellOf_inj) (Pipeline.launchToks cfgs cellOf_inj), initOf ringCells ringToks)

/-- The tokens a device pays with. -/
def toks (c : Dev nD) : sProp 𝕄 := bigSep Finset.univ fun t : TK => dutyTok ER (tokOf (c, t)).1 (tokOf (c, t)).2.1 (tokOf (c, t)).2.2

/-- What the launch element deals device `c`. -/
def G (c : Dev nD) : sProp 𝕄 :=
  iprop((bigSep Finset.univ fun k : CK => roundState ER (ringRd m ρ) (kcell (c, k)) 0)
    ∗ (bigSep Finset.univ fun k : CK => pos k c 0) ∗ toks c)

/-- What the global step makes of it. -/
def G' (c : Dev nD) : sProp 𝕄 := iprop((∃ K, records m ρ K) ∗ (bigSep Finset.univ fun k : CK => pos k c 0) ∗ toks c)

/-- The launch deals every device its semaphores' rounds and its payments. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos; simp only [bigSep_sep']
  isplitl [Hst']; · iexact Hst'
  isplitl [Hat' Hr']
  · isplitl [Hat'] <;> iassumption
  iexact Htok'

/-- A device's semaphores, all at zero, become its invariants. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : CK => pos k c 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What may be used again serves every item of a collection. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices are shared among all. -/
theorem regroup :
    (bigSep Finset.univ fun c : Dev nD => iprop((bigSep Finset.univ fun k => iprop(∃ κ : ℕ, cellInv ER (ringRd m ρ) κ (kcell (c, k))))
          ∗ (bigSep Finset.univ fun k : CK => pos k c 0) ∗ toks c) : sProp 𝕄)
      ⊢ bigSep Finset.univ (G' m ρ) := by
  have hat : (bigSep Finset.univ fun c : Dev nD => bigSep Finset.univ fun k : CK => (pos (F := F) k c 0))
      = iprop((bigSep Finset.univ fun c : Dev nD => bigSep Finset.univ fun k : CK => atPos ER (kcell (c, k)) 0 ∅ 0) ∗ bigSep Finset.univ fun x : Dev nD × CK => reached ER (kcell x) 0) := by
    unfold pos
    rw [bigSep_congr (s := Finset.univ) (fun (c : Dev nD) _ => bigSep_sep' Finset.univ (fun k : CK => (atPos ER (kcell (c, k)) 0 ∅ 0 : sProp 𝕄)) (fun k => reached ER (kcell (c, k)) 0)),
      bigSep_sep', ← bigSep_univ_prod (fun x : Dev nD × CK => (reached ER (kcell x) 0 : sProp 𝕄))]
  rw [bigSep_sep', bigSep_sep', ← bigSep_univ_prod (fun x : Dev nD × CK => iprop(∃ κ : ℕ, cellInv ER (ringRd m ρ) κ (kcell x)))]
  iintro ⟨HI, Hat, Htok⟩
  ihave HK := (BI.bigSep_exists_pi Finset.univ (fun (x : Dev nD × CK) (κ : ℕ) => (cellInv ER (ringRd m ρ) κ (kcell x) : sProp 𝕄))) $$ HI
  icases HK with ⟨%K, #HI⟩
  ihave Hat := (Entails.of_eq hat) $$ Hat
  icases Hat with ⟨Ha, #HR⟩
  iapply (with_persistent (R := records m ρ K) (S := Finset.univ) (Φ := fun c : Dev nD => iprop((bigSep Finset.univ fun k : CK => pos (F := F) k c 0) ∗ toks c)) fun c _ => by
    unfold G'
    iintro ⟨#H, Hp, Ht⟩
    isplitr; · iexists K; iexact H
    isplitl [Hp]; · iexact Hp
    iexact Ht)
  isplitr
  · unfold records; isplitl; · iexact HI
    iexact HR
  rw [bigSep_sep', hat]
  isplitl [Ha]
  · isplitl [Ha]; · iexact Ha
    iexact HR
  iexact Htok

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Credit for two things is credit for each; and the same of many. -/
theorem cred_add_eq (a b : CellTallies nD τ sig ℕ) : (cred (a + b) : sProp 𝕄) = iprop(cred a ∗ cred b) :=
  BI.Entails.antisymm (cred_add _ _).1 (cred_add _ _).2
omit [FloatOps F] in
theorem cred_sum (s : Finset ℕ) (f : ℕ → CellTallies nD τ sig ℕ) : (cred (∑ x ∈ s, f x) : sProp 𝕄) = bigSep s fun x => cred (f x) := by
  induction s using Finset.induction_on with
  | empty => rw [Finset.sum_empty, cred_zero, bigSep_empty]; rfl
  | insert x s hx ih => rw [Finset.sum_insert hx, BI.bigSep_insert hx, cred_add_eq, ih]; rfl

/-- What the devices owe a device's own cells. -/
def mine (c : Dev nD) : CellTallies nD τ sig ℕ :=
  (rdue c true 0 + rdue c false 0) + (cdue c true 0 + cdue c false 0) + tallyAt (cell .bar c) 0 1 + tallyAt (cell .bar c) 0 1

/-- A sum over all devices may be taken over their neighbours. -/
theorem around (dir : Bool) (f : Dev nD → CellTallies nD τ sig ℕ) : (∑ d, f (fwd dir d)) = ∑ d, f d := Equiv.sum_comp (ringE dir) f

/-- What all devices owe is what is owed to all of them. -/
theorem sum_O₀ : (∑ d, O₀ d) = ∑ d, mine d := by
  unfold O₀ O₁ due mine
  simp only [Finset.sum_add_distrib]
  rw [around true (fun d => rdue d true 0), around false (fun d => rdue d false 0), around (!true) (fun d => cdue d true 0),
    around (!false) (fun d => cdue d false 0), around true (fun d => tallyAt (cell .bar d) 0 1), around false (fun d => tallyAt (cell .bar d) 0 1)]

/-- Every unit is on device `d`'s cells. -/
def OnDev (d : Dev nD) (O : CellTallies nD τ sig ℕ) : Prop := ∀ g, O g ≠ 0 → g.1 = (d.tc : Thread nD τ)
/-- Two such things together are such a thing; -/
theorem on_add {d : Dev nD} {O O' : CellTallies nD τ sig ℕ} (h : OnDev d O) (h' : OnDev d O') : OnDev d (O + O') := fun g hg => by
  by_cases h0 : O g = 0
  · exact h' g (fun h1 => hg (by rw [Pi.add_apply, h0, h1, add_zero]))
  · exact h g h0
/-- so is a payment to one of the device's cells; -/
theorem on_tally (d : Dev nD) (k : CK) (u n : ℕ) : OnDev d (tallyAt (cell k d) u n) := fun g hg => by
  by_contra hne
  refine hg (tallyAt_ne_cell (fun h => hne ?_) ..)
  rw [h]
/-- so are many; -/
theorem on_sum {d : Dev nD} {s : Finset ℕ} {f : ℕ → CellTallies nD τ sig ℕ} (h : ∀ i ∈ s, OnDev d (f i)) : OnDev d (∑ i ∈ s, f i) :=
  Finset.sum_induction f (OnDev d) (fun _ _ => on_add) (fun g h => absurd rfl h) h
/-- so is all that it is owed. -/
theorem on_mine (d : Dev nD) : OnDev d (mine d) :=
  on_add (on_add (on_add (on_add (on_sum fun _ _ => on_tally _ _ _ _) (on_sum fun _ _ => on_tally _ _ _ _))
    (on_add (on_sum fun _ _ => on_tally _ _ _ _) (on_sum fun _ _ => on_tally _ _ _ _))) (on_tally _ _ _ _)) (on_tally _ _ _ _)

/-- The launch's credit of a device, by its cells. -/
theorem creds (c : Dev nD) :
    (Pipeline.launchCred O₀ c : sProp 𝕄)
      ⊢ iprop((((bigSep (Finset.Ico 0 31) fun h => cred (tallyAt (cell (.rcv true (sl (h + 1))) c) h N)) ∗ (bigSep (Finset.Ico 0 31) fun h => cred (tallyAt (cell (.rcv false (sl (h + 1))) c) h N)))
          ∗ (bigSep (Finset.Ico 0 30) (tokT (F := F) c true)) ∗ (bigSep (Finset.Ico 0 30) (tokT (F := F) c false)))
        ∗ cred (tallyAt (cell .bar c) 0 2)) := by
  rw [Pipeline.launchCred_of_sum O₀ mine sum_O₀ on_mine c]
  unfold mine rdue cdue tokT
  rw [add_assoc, tallyAt_add]
  simp only [cred_add_eq, cred_sum]
  exact BI.Entails.refl _

/-! ## A device's tokens and credit, hop by hop -/

/-- A collection over the first `n` hops, written as a range. -/
theorem fin_ico (n : ℕ) (Φ : ℕ → sProp 𝕄) : bigSep Finset.univ (fun h : Fin n => Φ h.val) = bigSep (Finset.Ico 0 n) Φ := by
  have e : Finset.Ico 0 n = Finset.univ.map (Fin.valEmbedding (n := n)) := by
    ext i; simp only [Finset.mem_Ico, Finset.mem_map, Finset.mem_univ, true_and, Fin.valEmbedding_apply]
    exact ⟨fun h => ⟨⟨i, h.2⟩, rfl⟩, fun ⟨a, ha⟩ => ha ▸ ⟨Nat.zero_le _, a.isLt⟩⟩
  rw [e, bigSep_map]; rfl

/-- A device's payments, by direction and by hop. -/
theorem toks_eq (c : Dev nD) : (toks c : sProp 𝕄) = bigSep Finset.univ fun d : Bool =>
    iprop(dutyTok ER (cell .bar (bwd d c)) 0 d ∗ (bigSep (Finset.Ico 0 31) fun h => dutyTok ER (cell (.snd d (sl h)) c) (h / 2) false)
      ∗ (bigSep (Finset.Ico 0 31) fun h => dutyTok ER (cell (.rcv d (sl (h + 1))) (fwd d c)) (h / 2) false)
      ∗ bigSep (Finset.Ico 0 30) (tokG (F := F) c d)) := by
  unfold toks
  rw [bigSep_univ_prod]
  refine bigSep_congr fun d _ => ?_
  rw [BI.bigSep_univ_sum, BI.bigSep_univ_sum, BI.bigSep_univ_sum, ← fin_ico 31, ← fin_ico 31, ← fin_ico 30, Finset.univ_unique, bigSep_singleton]
  rfl

omit [FloatOps F] in
/-- A collection over both directions. -/
theorem bigSep_bool (Φ : Bool → sProp 𝕄) : bigSep Finset.univ Φ = iprop(Φ true ∗ Φ false) :=
  bigSep_univ_eq_bigSepL [true, false] (by decide) (by decide) Φ

/-- What a device is dealt is what its body starts with. -/
theorem deal (c : Dev nD) : iprop((bigSep Finset.univ fun k : CK => pos (F := F) k c 0) ∗ toks c ∗ Pipeline.launchCred O₀ c) ⊢ ghost c := by
  rw [bigSep_CK, toks_eq, bigSep_bool]
  refine (sep_mono_right (sep_mono_right (creds c))).trans ?_
  unfold ghost posDir stock tokM
  simp only [bigSep_sep']
  iintro ⟨⟨P0, P1, P2, P3, P4, P5, P6, P7, P8, P9, PB⟩, ⟨⟨Tb, Ts, Tr, Tg⟩, ⟨Fb, Fs, Fr, Fg⟩⟩, ⟨⟨⟨Rt, Rf⟩, Ct, Cf⟩, CB⟩⟩
  isplitl [P0 P1 P2 P3 P4 P5 P6 P7 P8 P9 PB]
  · isplitl [PB]; · iexact PB
    isplitl [P0 P1 P2 P3 P8]
    · isplitl [P0]; · iexact P0
      isplitl [P1]; · iexact P1
      isplitl [P2]; · iexact P2
      isplitl [P3]; · iexact P3
      iexact P8
    isplitl [P4]; · iexact P4
    isplitl [P5]; · iexact P5
    isplitl [P6]; · iexact P6
    isplitl [P7]; · iexact P7
    iexact P9
  isplitl [Tb Fb]
  · isplitl [Tb]; · iexact Tb
    iexact Fb
  isplitr [CB]
  · isplitl [Ts Tr Tg Rt Ct]
    · isplitl [Ts Tr Rt]
      · isplitl [Ts]; · iexact Ts
        isplitl [Tr]; · iexact Tr
        iexact Rt
      isplitl [Tg]; · iexact Tg
      iexact Ct
    isplitl [Fs Fr Rf]
    · isplitl [Fs]; · iexact Fs
      isplitl [Fr]; · iexact Fr
      iexact Rf
    isplitl [Fg]; · iexact Fg
    iexact Cf
  iexact CB

end Cert.Proof

end
-- ==== Proof.Launch.lean ====
/-
  The launch: every run of the kernel ends, with the arrays at what the hops compute.
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The windows' contents around the body -/

variable (F) in
/-- What a device's body starts from besides its buffers' contents. -/
def start (c : Dev nD) : sProp 𝕄 := iprop((∃ K, ctx m ρ K) ∗ ghost c)
/-- Before the body: that, and the slots of both directions. -/
def Φ₀ (c : Dev nD) : sProp 𝕄 := iprop(start F m ρ c ∗ slots F true c ∗ slots F false c)
variable (F) in
/-- After the body: the slots, and every counter at zero. -/
def Φ₁ (c : Dev nD) : sProp 𝕄 := iprop((slots F true c ∗ slots F false c) ∗ zeros true c ∗ zeros false c ∗ semVal (cell .bar c) 0)

/-- The windows, around the body. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => pstg m ρ c
    | ⟨3, _⟩ => qstg m ρ c
    | ⟨4, _⟩ => outAt m ρ c
  Φ t := match t with
    | ⟨0, _⟩ => Φ₀ m ρ c
    | ⟨_ + 1, _⟩ => Φ₁ F c
  q _ := fullShare
  owed t := match t with
    | ⟨0, _⟩ => O₀ c
    | ⟨_ + 1, _⟩ => 0

omit [FloatOps F] in
/-- Holding a whole buffer at some contents. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- The same, of a staging buffer. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device has before its body, as the launch states it. -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- And after it. -/
def bodyPost (c : Dev nD) : sProp 𝕄 :=
  iprop(Φ₁ F c ∗ (dats m ρ 0 c).owesAt 0 t0_0.succ
    ∗ stg c cc0_stg0_0 (xstg m ρ c) ∗ stg c cc0_stg1_0 (wstg m ρ c) ∗ stg c cc0_stg2_0 (pstg m ρ c) ∗ stg c cc0_stg3_0 (qstg m ρ c)
    ∗ stg c cc0_stg4_0 (outAt m ρ c))

/-- The end of the body is what the launch wants. -/
theorem finish (c : Dev nD) : endSt m ρ c ⊢ bodyPost m ρ c := by
  unfold endSt bodyPost Φ₁ args scales xPts wPts pPts qPts oPts oweE Dat.owesAt Pipeline.owesWithin
  rw [show (dats m ρ 0 c).owed t0_0.succ = 0 from rfl]
  iintro ⟨Hs, Hz, ⟨Hx, Hw⟩, ⟨Hp, Hq⟩, Ho, ⟨%W, HO⟩⟩
  isplitl [Hs Hz]
  · isplitl [Hs]; · iexact Hs
    iexact Hz
  isplitl [HO]
  · iexists W
    isplitr; · ipureintro; exact fun _ _ => Or.inl trivial
    iexact HO
  isplitl [Hx]; · (iexists _; isplitr; · (ipureintro; rfl)); iexact Hx
  isplitl [Hw]; · (iexists _; isplitr; · (ipureintro; rfl)); iexact Hw
  isplitl [Hp]; · (iexists _; isplitr; · (ipureintro; rfl)); iexact Hp
  isplitl [Hq]; · (iexists _; isplitr; · (ipureintro; rfl)); iexact Hq
  iexists _; isplitr; · (ipureintro; rfl)
  iexact Ho

/-- The body goes from the one to the other. -/
theorem sound_body (c : Dev nD) :
    bodyPre m ρ c ⊢ wp frame (wpE (defs₀ (F := F)) 𝒱₀ c none) Set.univ
      (cc0_body (F := F) xM (Memref.isWhole_whole _) wM (Memref.isWhole_whole _) sxM (Memref.isWhole_whole _) swM (Memref.isWhole_whole _)
        oM (Memref.isWhole_whole _) (Memref.whole cc0_scratch0) (Memref.isWhole_whole _) (Memref.whole cc0_scratch1) (Memref.isWhole_whole _)
        cc0_scratch2 cc0_scratch3 cc0_scratch4 cc0_scratch5 cc0_scratch6 cc0_scratch7) (fun _ => bodyPost m ρ c) := by
  rw [body_eq, wp_deviceId]
  unfold bodyPre Φ₀ start
  iintro ⟨⟨⟨⟨%K, #Hx⟩, Hg⟩, Ht, Hf⟩, Ho, ⟨%d0, %g0, %h0, X⟩, ⟨%d1, %g1, %h1, W⟩, ⟨%d2, %g2, %h2, P⟩, ⟨%d3, %g3, %h3, R⟩, ⟨%d4, %g4, %h4, O⟩⟩
  have e0 : g0 = xstg m ρ c := by rw [h0]; unfold Dat.before; rw [if_pos (fetch0_0 t0_0)]; rfl
  have e1 : g1 = wstg m ρ c := by rw [h1]; unfold Dat.before; rw [if_pos (fetch0_1 t0_0)]; rfl
  have e2 : g2 = pstg m ρ c := by rw [h2]; unfold Dat.before; rw [if_pos (fetch0_2 t0_0)]; rfl
  have e3 : g3 = qstg m ρ c := by rw [h3]; unfold Dat.before; rw [if_pos (fetch0_3 t0_0)]; rfl
  subst e0; subst e1; subst e2; subst e3
  unfold Dat.owesAt Pipeline.owesWithin
  icases Ho with ⟨%W', %hW, HO⟩
  rw [show (dats m ρ 0 c).owed t0_0.castSucc = O₀ c from rfl]
  iapply (body_ok (m := m) (ρ := ρ) (K := K) c g4) $$ [Hg Ht Hf X W P R O HO]
  · isplitr; · iexact Hx
    unfold beginSt args scales xPts wPts pPts qPts oPts oweE
    isplitl [Hg]; · iexact Hg
    isplitl [Ht Hf]
    · isplitl [Ht]; · iexact Ht
      iexact Hf
    isplitl [X W]
    · isplitl [X]; · iexact X
      iexact W
    isplitl [P R]
    · isplitl [P]; · iexact P
      iexact R
    isplitl [O]; · iexact O
    iexists W'; iexact HO
  iintro H
  iapply (finish m ρ c); iexact H

set_option maxRecDepth 100000 in
/-- So it meets what the launch asks of it. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ _
  have e : defs₀ (F := F) Proc.tc 0 (t0_0, cfg0.slots t0_0) = (cc0_body (F := F) xM (Memref.isWhole_whole _) wM (Memref.isWhole_whole _) sxM (Memref.isWhole_whole _) swM (Memref.isWhole_whole _)
        oM (Memref.isWhole_whole _) (Memref.whole cc0_scratch0) (Memref.isWhole_whole _) (Memref.whole cc0_scratch1) (Memref.isWhole_whole _)
        cc0_scratch2 cc0_scratch3 cc0_scratch4 cc0_scratch5 cc0_scratch6 cc0_scratch7) := rfl
  rw [e]
  exact sound_body m ρ c

/-! ## The launch -/

/-- Each array is held whole. -/
theorem share_eq (c : Dev nD) (w : Fin cfg0.W) : (dats m ρ 0 c).share w = fullShare := by unfold Dat.share; split <;> rfl

/-- What the launch gives a device is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start F m ρ c ∗ emp) := by
  unfold start G' ctx
  iintro ⟨-, Hlev, Hcr, -, ⟨%K, HK⟩, Hp, Ht⟩
  ihave Hg := (deal (F := F) c) $$ [Hp Ht Hcr]
  · isplitl [Hp]; · iexact Hp
    isplitl [Ht]; · iexact Ht
    iexact Hcr
  imodintro
  isplitl
  · isplitr [Hg]
    · iexists K
      isplitl [HK]; · iexact HK
      iexact Hlev
    iexact Hg
  iempintro

omit [FloatOps F] in
/-- A direction's buffer is the kernel's scratch buffer, for each direction. -/
theorem buf_true (c : Dev nD) : buf (F := F) true c
    = iprop(∃ f : Buf (Elt F) ((c : Thread nD τ).loc cc0_scratch0), ((c : Thread nD τ).loc cc0_scratch0) ↦{fullShare} f) := rfl
omit [FloatOps F] in
theorem buf_false (c : Dev nD) : buf (F := F) false c
    = iprop(∃ f : Buf (Elt F) ((c : Thread nD τ).loc cc0_scratch1), ((c : Thread nD τ).loc cc0_scratch1) ↦{fullShare} f) := rfl

/-- With the scratch buffers it makes the state before the body. -/
theorem phi0_intro (c : Dev nD) :
    iprop(start F m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hb⟩
  isplitl [Hs]; · iexact Hs
  isplitl [Ha]
  · iapply (slots_intro (F := F) true c); rw [buf_true]; iexact Ha
  iapply (slots_intro (F := F) false c); rw [buf_false]; iexact Hb

/-- The state after the body gives the semaphores at zero and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ F c from rfl, scopedRest0_eq, ownSems0_eq, unscopedSems0_eq]
  unfold Φ₁ zeros
  iintro ⟨⟨Ha, Hb⟩, ⟨H0, H1, H2, H3, H4⟩, ⟨H5, H6, H7, H8, H9⟩, HB⟩
  isplitl [HB]; · iexact HB
  isplitr [Ha Hb]
  · isplitl [H0]; · iexact H0
    isplitl [H1]; · iexact H1
    isplitl [H2]; · iexact H2
    isplitl [H3]; · iexact H3
    isplitl [H5]; · iexact H5
    isplitl [H6]; · iexact H6
    isplitl [H7]; · iexact H7
    isplitl [H8]; · iexact H8
    isplitl [H4]; · iexact H4
    iexact H9
  isplitl [Ha]
  · rw [← buf_true]; iapply (slots_elim (F := F) true c); iexact Ha
  rw [← buf_false]; iapply (slots_elim (F := F) false c); iexact Hb

unseal kindOf in
/-- The staging semaphores are none of the shared ones. -/
theorem stage_kind (w : Fin 5) (s : Fin (cfg0.win w).nbuf) : kindOf (SemLoc.dma ((cfg0.win w).sem s)) = none := by
  fin_cases w <;> fin_cases s <;> decide

/-- A device may wait for its staging: that is below all it owes. -/
theorem waits (c : Dev nD) : (levAts L lv : sProp 𝕄) ⊢ Pipeline.cellsWaits cfgs (dats m ρ) 0 0 c :=
  Pipeline.cellsWaits_intro cfgs (dats m ρ) 0 0 c fun w s t =>
    mayWait (F := F) c _ 0 (by decide) (by
      have e : lv ((c : Thread nD τ), SemLoc.dma ((cfg0.win w).sem s)) 0 = 0 := by
        dsimp only [lv]; rw [stage_kind w s]
      rw [e]
      obtain ⟨t, ht⟩ := t
      cases t with
      | zero => exact above_O₀ c
      | succ t => exact above_zero 0)

/-! ## The run -/

/-- A device's arrays after the run. -/
def finalA (c : Dev nD) (w : Fin cfg0.W) : Buf (Elt F) ((cfg0.win w).arr.view.loc (c : Thread nD τ)) := (dats m ρ 0 c).arrAt w cfg0.N

/-- After the run every array of every device is at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the thirty-two devices, for any float values, from any memory with zero counters: every weakly fair execution
    terminates, with the arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start F m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof

end
-- ==== Proof.Final.lean ====
/-
  What the arrays hold after the run.
-/
module

public import proofs.«01_k».proof.Proof.Launch
public import Idealize.ShloMosaic.Lib.Pipeline.Value

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Every window's block is its whole array -/

omit [FloatOps F] in
/-- A window reads its whole array, for each of the five. -/
theorem read_blk0 (t : Fin cfg0.N) (X : (main_arg0 : Ref sig .tc).ty.Contents (Elt F)) : (win0_0.blk t).view.read (Elt F) X = X :=
  Memref.read_access_unit_zero (Elt F) main_arg0 (funext fun a => Nat.zero_mul _) _ X
omit [FloatOps F] in
theorem read_blk1 (t : Fin cfg0.N) (X : (main_arg1 : Ref sig .tc).ty.Contents (Elt F)) : (win0_1.blk t).view.read (Elt F) X = X :=
  Memref.read_access_unit_zero (Elt F) main_arg1 (funext fun a => Nat.zero_mul _) _ X
omit [FloatOps F] in
theorem read_blk2 (t : Fin cfg0.N) (X : (main_arg2 : Ref sig .tc).ty.Contents (Elt F)) : (win0_2.blk t).view.read (Elt F) X = X :=
  Memref.read_access_unit_zero (Elt F) main_arg2 (funext fun a => Nat.zero_mul _) _ X
omit [FloatOps F] in
theorem read_blk3 (t : Fin cfg0.N) (X : (main_arg3 : Ref sig .tc).ty.Contents (Elt F)) : (win0_3.blk t).view.read (Elt F) X = X :=
  Memref.read_access_unit_zero (Elt F) main_arg3 (funext fun a => Nat.zero_mul _) _ X
omit [FloatOps F] in
theorem read_blk4 (t : Fin cfg0.N) (X : (main_v1 : Ref sig .tc).ty.Contents (Elt F)) : (win0_4.blk t).view.read (Elt F) X = X :=
  Memref.read_access_unit_zero (Elt F) main_v1 (funext fun a => Nat.zero_mul _) _ X

/-- So what is staged is the argument itself. -/
theorem xstg_eq (c : Dev nD) : xstg m ρ c = m ((c : Thread nD τ).loc main_arg0) := read_blk0 (F := F) _ _
theorem wstg_eq (c : Dev nD) : wstg m ρ c = m ((c : Thread nD τ).loc main_arg1) := read_blk1 (F := F) _ _
theorem pstg_eq (c : Dev nD) : pstg m ρ c = m ((c : Thread nD τ).loc main_arg2) := read_blk2 (F := F) _ _
theorem qstg_eq (c : Dev nD) : qstg m ρ c = m ((c : Thread nD τ).loc main_arg3) := read_blk3 (F := F) _ _

/-! ## The arrays after the run -/

/-- The one write-back leaves the result array at what the body stored. -/
theorem final_out (c : Dev nD) : finalA m ρ c (4 : Fin 5) = outAt m ρ c :=
  (dats m ρ 0 c).arrAt_eq_of_cover (4 : Fin 5) (outAt m ρ c)
    (fun t _ => by
      show (cfg0.win 4).cut (grid0.coords t) ((dats m ρ 0 c).after (4 : Fin 5) t) = (win0_4.blk t).view.read (Elt F) (outAt m ρ c)
      rw [read_blk4]; rfl)
    (fun i => ⟨t0_0, flush0_4 _, by
      have h : ((win0_4.blk t0_0).view.emb i) = i := by
        funext a; apply Fin.ext
        show 0 * _ + 1 * (i a).val = (i a).val
        omega
      have := (win0_4.blk t0_0).view.emb_mem_set i
      rwa [h] at this⟩)

/-- An argument array is left as it was. -/
theorem kept (c : Dev nD) (w : Fin cfg0.W) (h : (cfg0.win w).isOut = false) :
    finalA m ρ c w = (s₀ m ρ).mem ((cfg0.win w).arr.view.loc (c : Thread nD τ)) := (dats (F := F) m ρ 0 c).arrAt_in w h _

/-- Every run ends with each device's result array at its block of the scaled sum around the ring, its arguments
    unchanged, and every counter at zero. -/
theorem run_values : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c (4 : Fin 5)).trans (final_out m ρ c),
      (h.1 c (0 : Fin 5)).trans (kept m ρ c (0 : Fin 5) rfl), (h.1 c (1 : Fin 5)).trans (kept m ρ c (1 : Fin 5) rfl),
      (h.1 c (2 : Fin 5)).trans (kept m ρ c (2 : Fin 5) rfl), (h.1 c (3 : Fin 5)).trans (kept m ρ c (3 : Fin 5) rfl)⟩, h.2⟩)
    (run_main m ρ)

end Cert.Proof

end
-- ==== Proof.Value.lean ====
/-
  The result in closed form, over the extended reals: a device's block of the result is, at each index, the sum
  over all thirty-two devices of their products for the block's rows, times the product of the two scales.
-/
module

public import proofs.«01_k».proof.Proof.Final
public import Idealize.ShloMosaic.Lib.MatmulPlain
public import Idealize.ShloMosaic.Lib.ValueIdx

@[expose] public section

noncomputable section

namespace Cert.Proof

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ) (ρ : Dev nD → PrngReg)

/-! ## One product -/

/-- A device's two blocks of the operands. -/
abbrev xOf (c : Dev nD) : FVec Ideal S4096x128 .fp8e5m2 := m ((c : Thread nD τ).loc main_arg0)
abbrev wOf (c : Dev nD) : FVec Ideal S128x8192 .fp8e5m2 := m ((c : Thread nD τ).loc main_arg1)

/-- Device `d`'s share of the result at row `r` of row block `b`, column `n`. -/
def share (d : Dev nD) (b : Fin 32) (r : Fin 128) (n : Fin 8192) : EReal :=
  ∑ k : Fin 128, xOf m d (ix2 ⟨128 * b.val + r.val, by omega⟩ k) * wOf m d (ix2 k n)

/-- A column of a direction's half, as a column of the whole. -/
def colAt (dir : Bool) (n : Fin 4096) : Fin 8192 := ⟨col dir + n.val, by cases dir <;> simp only [col] <;> omega⟩

/-- The kernel's product is the plain product of two matrices. -/
theorem dot_eq : dot_S128x128_S128x4096_S128x4096_1_0_0_1_n_n = DotDims.plain 128 128 4096 := rfl

/-- At an index it is the sum over the 128 columns of `x` that a device has. -/
theorem blk_apply (x : Vec Ideal S128x128 .fp8e5m2) (w : Vec Ideal S128x4096 .fp8e5m2) (r : Fin 128) (n : Fin 4096) :
    blk (F := Ideal) x w (ix2 r n) = ∑ k : Fin 128, (x (ix2 r k) : EReal) * w (ix2 k n) := by
  unfold blk
  rw [dot_eq, shapeCast_self, shapeCast_self]
  refine (Ideal.matmul_plain_apply (M := 128) (K := 128) (N := 4096) (φ₁ := .fp8e5m2) (φ₂ := .fp8e5m2) none x w _ r n).trans ?_
  show Ideal.ofBits .f32 0x00000000#32 + _ = _
  rw [Ideal.ofBits_zero_f32, zero_add]

/-- A device's product for row block `b` is its share of that block. -/
theorem prod_apply (c : Dev nD) (dir : Bool) (o : Rows) (b : Fin 32) (ho : o.off = ![128 * b.val, 0]) (r : Fin 128) (n : Fin 4096) :
    prod m ρ c dir o (ix2 r n) = share m c b r (colAt dir n) := by
  unfold prod share
  rw [blk_apply, xstg_eq, wstg_eq]
  refine Finset.sum_congr rfl fun k _ => ?_
  have h0 : o.off 0 = 128 * b.val := congrFun ho 0
  have h1 : o.off 1 = 0 := congrFun ho 1
  congr 1
  · show xOf m c _ = _
    congr 1
    funext a; apply Fin.ext
    match a with
    | ⟨0, _⟩ => show o.off 0 + 1 * r.val = 128 * b.val + r.val; omega
    | ⟨1, _⟩ => show o.off 1 + 1 * k.val = k.val; omega
  · show wOf m c _ = _
    congr 1
    funext a; apply Fin.ext
    match a with
    | ⟨0, _⟩ => show 0 + 1 * k.val = k.val; omega
    | ⟨1, _⟩ => show col dir + 1 * n.val = col dir + n.val; omega

/-! ## The sum around the ring -/

/-- The row block that the partial sum leaving device `c` at hop `h` is for. -/
def dest (dir : Bool) (h : ℕ) (c : Dev nD) : Fin 32 :=
  match dir with
  | true => ⟨(c.val + 63 - h) % 32, Nat.mod_lt _ (by decide)⟩
  | false => ⟨(c.val + 1 + h) % 32, Nat.mod_lt _ (by decide)⟩

/-- The first product is for the row block the first hop carries. -/
theorem rowsFst_off (dir : Bool) (c : Dev nD) : (rowsFst c dir).off = ![128 * (dest dir 0 c).val, 0] := by
  cases dir
  · exact (k0_off2_eq c).trans (by simp only [dest, Nat.add_zero])
  · refine (k0_off1_eq c).trans ?_
    have : (c.val + 31) % 32 = (c.val + 63 - 0) % 32 := by omega
    simp only [dest, this]

/-- The product after a hop is for the row block the next hop carries. -/
theorem rowsN_off (dir : Bool) (c : Dev nD) (h : ℕ) (hh : h < 31) : (rowsN c dir h).off = ![128 * (dest dir (h + 1) c).val, 0] := by
  have e : rowsN c dir h = rowsAt c dir ⟨h, hh⟩ := (rowsAt_eq c dir ⟨h, hh⟩).symm
  rw [e]
  cases dir
  · refine (k0_off4_eq c ⟨h, hh⟩).trans ?_
    have : (c.val + h + 2) % 32 = (c.val + 1 + (h + 1)) % 32 := by congr 1; omega
    simp only [dest, ← this]
  · refine (k0_off3_eq c ⟨h, hh⟩).trans ?_
    have : (c.val + 62 - h) % 32 = (c.val + 63 - (h + 1)) % 32 := by congr 1; omega
    simp only [dest, ← this]

/-- A partial sum keeps its row block as it travels. -/
theorem dest_bwd (dir : Bool) (c : Dev nD) (h : ℕ) (hh : h < 31) : dest dir h (bwd dir c) = dest dir (h + 1) c := by
  have hc : c.val < 32 := c.isLt
  apply Fin.ext
  cases dir
  · show ((c.val + 1) % 32 + 1 + h) % 32 = (c.val + 1 + (h + 1)) % 32
    omega
  · show ((c.val + 31) % 32 + 63 - h) % 32 = (c.val + 63 - (h + 1)) % 32
    omega

/-- After 31 hops it is at the device whose row block it is. -/
theorem dest_last (dir : Bool) (c : Dev nD) : dest dir 31 c = c := by
  have hc : c.val < 32 := c.isLt
  apply Fin.ext
  cases dir
  · show (c.val + 1 + 31) % 32 = c.val
    omega
  · show (c.val + 63 - 31) % 32 = c.val
    omega

/-- The device `j` places back along the ring. -/
def back (dir : Bool) : ℕ → Dev nD → Dev nD
  | 0, c => c
  | j + 1, c => back dir j (bwd dir c)

/-- The partial sum leaving device `c` at hop `h`: the shares of the `h + 1` devices up to it. -/
theorem acc_apply (dir : Bool) (r : Fin 128) (n : Fin 4096) : ∀ (h : ℕ) (hh : h ≤ 31) (c : Dev nD),
    acc m ρ dir h c (ix2 r n) = ∑ j ∈ Finset.range (h + 1), share m (back dir j c) (dest dir h c) r (colAt dir n)
  | 0, _, c => by
    rw [Finset.sum_range_one]
    exact prod_apply m ρ c dir _ _ (rowsFst_off dir c) r n
  | h + 1, hh, c => by
    rw [Finset.sum_range_succ']
    show (acc m ρ dir h (bwd dir c) (ix2 r n) : EReal) + prod m ρ c dir (rowsN c dir h) (ix2 r n) = _
    rw [acc_apply dir r n h (by omega) (bwd dir c), prod_apply m ρ c dir _ _ (rowsN_off dir c h (by omega)) r n,
      dest_bwd dir c h (by omega)]
    rfl

/-- Where `j` places back is. -/
theorem back_val (dir : Bool) : ∀ (j : ℕ) (c : Dev nD), (back dir j c).val = (c.val + (bif dir then 31 else 1) * j) % 32
  | 0, c => by have hc : c.val < 32 := c.isLt; show c.val = _; cases dir <;> simp only [cond_true, cond_false] <;> omega
  | j + 1, c => by
    show (back dir j (bwd dir c)).val = _
    rw [back_val dir j]
    cases dir
    · show ((c.val + 1) % 32 + 1 * j) % 32 = (c.val + 1 * (j + 1)) % 32
      omega
    · show ((c.val + 31) % 32 + 31 * j) % 32 = (c.val + 31 * (j + 1)) % 32
      omega

/-- Thirty-two places back go through every device once. -/
theorem back_inj (dir : Bool) (c : Dev nD) : Function.Injective fun j : Fin 32 => back dir j.val c := fun i j h => by
  have hv := congrArg Fin.val h
  simp only [back_val] at hv
  apply Fin.ext
  have hi := i.isLt
  have hj := j.isLt
  cases dir <;> simp only [cond_true, cond_false] at hv <;> omega

/-- So the sum over the thirty-two places back is the sum over all devices. -/
theorem sum_back (dir : Bool) (c : Dev nD) (f : Dev nD → EReal) : ∑ j ∈ Finset.range 32, f (back dir j c) = ∑ d, f d := by
  rw [Finset.sum_range fun j => f (back dir j c)]
  exact Equiv.sum_comp (Equiv.ofBijective _ (Finite.injective_iff_bijective.mp (back_inj dir c))) f

/-- The sum a device ends with. -/
theorem acc_last (dir : Bool) (c : Dev nD) (r : Fin 128) (n : Fin 4096) :
    acc m ρ dir 31 c (ix2 r n) = ∑ d : Dev nD, share m d c r (colAt dir n) := by
  rw [acc_apply m ρ dir r n 31 le_rfl c, dest_last]
  exact sum_back dir c fun d => share m d c r (colAt dir n)

/-! ## The block of the result -/

/-- The one entry of each scale. -/
abbrev sx (c : Dev nD) : EReal := (m ((c : Thread nD τ).loc main_arg2) : FVec Ideal S1 .f32) (ix1 0)
abbrev sw (c : Dev nD) : EReal := (m ((c : Thread nD τ).loc main_arg3) : FVec Ideal S1 .f32) (ix1 0)

/-- An array of one entry has one index. -/
theorem one_index (i : S1.Idx) : i = ix1 0 := by
  funext a
  match a with
  | ⟨0, _⟩ => exact Subsingleton.elim (α := Fin 1) _ _

/-- The scale the body reads is the argument, for each of the two. -/
theorem scaleX_eq (c : Dev nD) : scaleX m ρ c = sx m c := by
  unfold scaleX
  rw [pstg_eq]
  show (m ((c : Thread nD τ).loc main_arg2) : FVec Ideal S1 .f32) _ = _
  congr 1
  exact one_index _
theorem scaleW_eq (c : Dev nD) : scaleW m ρ c = sw m c := by
  unfold scaleW
  rw [qstg_eq]
  show (m ((c : Thread nD τ).loc main_arg3) : FVec Ideal S1 .f32) _ = _
  congr 1
  exact one_index _

/-- A half of the result at an index. -/
theorem half_apply (dir : Bool) (c : Dev nD) (r : Fin 128) (n : Fin 4096) :
    half m ρ dir c (ix2 r n) = (∑ d : Dev nD, share m d c r (colAt dir n)) * (sx m c * sw m c) := by
  rw [← acc_last m ρ, ← scaleX_eq m ρ, ← scaleW_eq m ρ]
  rfl

/-- A device's block of the result at row `r`, column `n`: the shares of all the devices, added and scaled. -/
theorem outAt_apply (c : Dev nD) (r : Fin 128) (n : Fin 8192) :
    outAt m ρ c (ix2 r n) = (∑ d : Dev nD, share m d c r n) * (sx m c * sw m c) := by
  unfold outAt halves
  have hn := n.isLt
  by_cases h : n.val < 4096
  · rw [dif_pos h]
    refine (half_apply m ρ true c _ _).trans ?_
    have e : colAt true ⟨n.val, h⟩ = n := Fin.ext (Nat.zero_add _)
    exact congrArg (fun q => (∑ d : Dev nD, share m d c r q) * (sx m c * sw m c)) e
  · rw [dif_neg h]
    refine (half_apply m ρ false c _ _).trans ?_
    have e : colAt false ⟨n.val - 4096, by omega⟩ = n := Fin.ext (by show 4096 + (n.val - 4096) = n.val; omega)
    exact congrArg (fun q => (∑ d : Dev nD, share m d c r q) * (sx m c * sw m c)) e

end Cert.Proof

end
-- ==== Proof.Equation.lean ====
/-
  What the reference computes, over the extended reals, and that each device's block of the kernel's result is that
  device's block of it: a sum over 4096 products is the sum, over the thirty-two devices, of 128 products each.
-/
module

public import proofs.«01_k».proof.Proof.Value
public import proofs.«01_k».proof.Proof.Gen.ReferenceIdeal.Value
public import Idealize.ShloMosaic.Lib.Layout

@[expose] public section

noncomputable section

namespace Cert.Proof

open Idealize.ShloMosaic Idealize.ShloMosaic.TcCoe Idealize.ShloMosaic.ValueIdx
open scoped BigOperators

/-! ## The reference at an index -/

/-- The shapes of the whole operands and of a scale. -/
abbrev X : Shape := ⟨2, ![4096, 4096]⟩
abbrev W : Shape := ⟨2, ![4096, 8192]⟩
abbrev One : Shape := ⟨1, ![1]⟩

/-- The reference's result, as its run states it. -/
abbrev refOut (a0 : FVec Ideal X .fp8e5m2) (a1 : FVec Ideal W .fp8e5m2) (a2 a3 : FVec Ideal One .f32) : FVec Ideal W .f32 :=
  Cert.ReferenceIdeal.Value.G4 (F := Ideal) a0 a1 a2 a3

/-- The reference at row `r`, column `n`: the product there, times the product of the scales. -/
theorem refOut_apply (a0 : FVec Ideal X .fp8e5m2) (a1 : FVec Ideal W .fp8e5m2) (a2 a3 : FVec Ideal One .f32) (r : Fin 4096) (n : Fin 8192) :
    refOut a0 a1 a2 a3 (ix2 r n)
      = (∑ k : Fin 4096, (a0 (ix2 r k) : EReal) * a1 (ix2 k n)) * ((a2 (ix1 0) : EReal) * a3 (ix1 0)) := by
  show (FloatOps.matmul (F := Ideal) (DotDims.plain 4096 4096 8192) none a0 a1 (constant W .f32 0x00000000#32) (ix2 r n) : EReal)
    * (mulf a2 a3 : FVec Ideal One .f32) _ = _
  refine congrArg₂ (fun p q : EReal => p * q) ?_ (congrArg (mulf a2 a3 : FVec Ideal One .f32) (one_index _))
  rw [Ideal.matmul_plain_apply]
  show Ideal.ofBits .f32 0x00000000#32 + _ = _
  rw [Ideal.ofBits_zero_f32, zero_add]

/-! ## The contraction, cut in blocks -/

/-- A sum over 4096 is the sum over 32 blocks of 128. -/
theorem sum_blocks (f : Fin 4096 → EReal) :
    ∑ k, f k = ∑ d : Fin 32, ∑ k : Fin 128, f ⟨128 * d.val + k.val, by omega⟩ := by
  rw [← Equiv.sum_comp (finProdFinEquiv (m := 32) (n := 128)) f, Fintype.sum_prod_type]
  refine Finset.sum_congr rfl fun d _ => Finset.sum_congr rfl fun k _ => congrArg f (Fin.ext ?_)
  show k.val + 128 * d.val = 128 * d.val + k.val
  omega

/-! ## The equation -/

section Eq
open Cert.KernelIdeal

variable (m : (ℓ : Loc nD τ sig) → Buf (Elt Ideal) ℓ) (ρ : Dev nD → PrngReg)
variable (a0 : FVec Ideal X .fp8e5m2) (a1 : FVec Ideal W .fp8e5m2) (a2 a3 : FVec Ideal One .f32)

/-- The devices' arguments are the blocks of the whole arrays, and the scales are copies. -/
def Laid : Prop := ∀ c : Dev nD,
  xOf m c = Layout.block ⟨2, ![4096, 128]⟩ ⟨2, ![4096, 4096]⟩ 1 32 c a0
  ∧ wOf m c = Layout.block ⟨2, ![128, 8192]⟩ ⟨2, ![4096, 8192]⟩ 0 32 c a1
  ∧ (m ((c : Thread nD τ).loc main_arg2) : FVec Ideal One .f32) = a2
  ∧ (m ((c : Thread nD τ).loc main_arg3) : FVec Ideal One .f32) = a3

variable {m a0 a1 a2 a3}

/-- A device's share is its 128 terms of the whole product. -/
theorem share_eq_terms (H : Laid m a0 a1 a2 a3) (d : Dev nD) (b : Fin 32) (r : Fin 128) (n : Fin 8192) :
    share m d b r n = ∑ k : Fin 128, (a0 (ix2 ⟨128 * b.val + r.val, by omega⟩ ⟨128 * d.val + k.val, by have : d.val < 32 := d.isLt; omega⟩) : EReal)
      * a1 (ix2 ⟨128 * d.val + k.val, by have : d.val < 32 := d.isLt; omega⟩ n) := by
  unfold share
  refine Finset.sum_congr rfl fun k _ => ?_
  rw [(H d).1, (H d).2.1, Layout.block_apply, Layout.block_apply]
  congr 2
  · funext a; apply Fin.ext
    match a with
    | ⟨0, _⟩ => rfl
    | ⟨1, _⟩ => show d.val * 128 + k.val = 128 * d.val + k.val; omega
  · funext a; apply Fin.ext
    match a with
    | ⟨0, _⟩ => show d.val * 128 + k.val = 128 * d.val + k.val; omega
    | ⟨1, _⟩ => rfl

/-- Device `c` ends with block `c` of the rows of the reference's result. -/
theorem outAt_eq_block (H : Laid m a0 a1 a2 a3) (c : Dev nD) :
    outAt m ρ c = Layout.block ⟨2, ![128, 8192]⟩ ⟨2, ![4096, 8192]⟩ 0 32 c (refOut a0 a1 a2 a3) := by
  funext i
  obtain ⟨r, n, rfl⟩ : ∃ (r : Fin 128) (n : Fin 8192), i = ix2 r n := ⟨i 0, i 1, eq_ix2 i⟩
  rw [outAt_apply, Layout.block_apply]
  have e : (Layout.Tiles.idx (S := ⟨2, ![128, 8192]⟩) (T := ⟨2, ![4096, 8192]⟩) (a := 0) (k := 32) (by decide) c (ix2 r n) : W.Idx)
      = ix2 ⟨128 * c.val + r.val, by have : c.val < 32 := c.isLt; omega⟩ n := by
    funext a; apply Fin.ext
    match a with
    | ⟨0, _⟩ => show c.val * 128 + r.val = 128 * c.val + r.val; omega
    | ⟨1, _⟩ => rfl
  refine Eq.trans ?_ ((congrArg (refOut a0 a1 a2 a3) e).trans (refOut_apply a0 a1 a2 a3 _ n)).symm
  rw [sum_blocks]
  congr 1
  · exact Finset.sum_congr rfl fun d _ => share_eq_terms H d c r n
  · unfold sx sw
    rw [← (H c).2.2.1, ← (H c).2.2.2]

end Eq

end Cert.Proof

end
-- ==== Proof.lean ====
/-
  The five claims, assembled: the run of the kernel is proved once, for any float values (`run_values`), and gives both
  of its frames; the reference's run and value are its own module's; `outAt_eq_block` is the equation between the two.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Frame
public import proofs.«01_k».proof.Proof.Gen.ReferenceIdeal.Value
public import proofs.«01_k».proof.Proof.Same
public import proofs.«01_k».proof.Proof.Equation

@[expose] public section

noncomputable section

namespace Cert.Proof

open Idealize.ShloMosaic Idealize.ShloMosaic.TcCoe Idealize.SL.Sem

/-- The kernel as printed runs, leaves its arguments as they were and every counter at zero. -/
theorem frame_kernel : Cert.quiescent_Kernel (hKernel := Cert.Kernel.Gen.facts) := fun m ρ _ => by
  have e := run_values (F := Bits) m ρ
  rw [← defs_same, ← main_same] at e
  exact (θ_run Cert.Kernel.defs _ _).mono (fun _ h => ⟨fun c => (h.1 c).2, h.2⟩) e

/-- So does the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_values (F := Ideal) m ρ)

/-- Over the extended reals, each device ends with its block of rows of the reference's result. -/
theorem values : Cert.algebraic_KernelIdeal_ReferenceIdeal (hKernelIdeal := Cert.KernelIdeal.Gen.facts)
    (hReferenceIdeal := Cert.ReferenceIdeal.Gen.facts) := fun m ρ m' ρ' _ H =>
  ⟨Cert.ReferenceIdeal.Value.G4 (F := Ideal) (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run Cert.KernelIdeal.defs _ _).mono (fun _ h c => ⟨(h.1 c).1.trans (outAt_eq_block ρ H c), (h.1 c).2⟩) (run_values (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, values⟩

end Cert.Proof

end
